-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x32768 : Shape := ⟨2, ![64, 32768]⟩
abbrev S_ : Shape := ⟨0, ![]⟩

class Facts : Prop where
  bcast_S_S64x32768 : S_.BroadcastsInDim S64x32768 (![] : Fin 0 → Fin S64x32768.rank)

variable [Facts]

def fn {F : FTy → Type} [FloatOps F] (main_arg0 : FVec F S64x32768 .f32) : IVec S64x32768 1 :=
  let main_v0 : FVec F S64x32768 .f32 := Host.absf main_arg0
  let main_cst : FVec F S_ .f32 := constant S_ .f32 0x7F800000#32
  let main_v1 : FVec F S64x32768 .f32 := broadcastInDim S64x32768 ![] bcast_S_S64x32768 main_cst
  let main_v2 : IVec S64x32768 1 := cmpf .olt main_v0 main_v1
  main_v2
-- ==== Kernel.lean ====
abbrev S64x32768 : Shape := ⟨2, ![64, 32768]⟩
abbrev S64x10x32768 : Shape := ⟨3, ![64, 10, 32768]⟩
abbrev S8x32768 : Shape := ⟨2, ![8, 32768]⟩
abbrev S8x10x32768 : Shape := ⟨3, ![8, 10, 32768]⟩
abbrev S8 : Shape := ⟨1, ![8]⟩
abbrev S8x1 : Shape := ⟨2, ![8, 1]⟩
abbrev S8x1024 : Shape := ⟨2, ![8, 1024]⟩
abbrev S8x1x32768 : Shape := ⟨3, ![8, 1, 32768]⟩
abbrev S64x10 : Shape := ⟨2, ![64, 10]⟩
abbrev S1x1 : Shape := ⟨2, ![1, 1]⟩
abbrev S64 : Shape := ⟨1, ![64]⟩
abbrev S64x1 : Shape := ⟨2, ![64, 1]⟩
abbrev S1x64x10 : Shape := ⟨3, ![1, 64, 10]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S64x32768, .f32⟩
  | .hbm, ⟨1, _⟩ => ⟨S64x10x32768, .f32⟩
  | .hbm, ⟨2, _⟩ => ⟨S64x10, .f32⟩
  | .hbm, ⟨3, _⟩ => ⟨S64x10, .f32⟩
  | .hbm, ⟨4, _⟩ => ⟨S1x1, .f32⟩
  | .hbm, ⟨5, _⟩ => ⟨S_, .f32⟩
  | .local _ .vmem, ⟨0, _⟩ => ⟨S8x32768, .f32⟩
  | .local _ .vmem, ⟨1, _⟩ => ⟨S8x32768, .f32⟩
  | .local _ .vmem, ⟨2, _⟩ => ⟨S8x10x32768, .f32⟩
  | .local _ .vmem, ⟨3, _⟩ => ⟨S8x10x32768, .f32⟩
  | .local _ .vmem, ⟨4, _⟩ => ⟨S64x10, .f32⟩
  | .local _ .vmem, ⟨5, _⟩ => ⟨S64x10, .f32⟩
  | .local _ .vmem, ⟨6, _⟩ => ⟨S1x1, .f32⟩
  | _, _ => ⟨S64x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x10x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

abbrev stage1_0 : Fin 1 → Memref sig .tc .vmem S64x10 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S64x32768 : Shape := ⟨2, ![64, 32768]⟩
abbrev S_ : Shape := ⟨0, ![]⟩
abbrev S64x10 : Shape := ⟨2, ![64, 10]⟩
abbrev S1024 : Shape := ⟨1, ![1024]⟩
abbrev S1024x1 : Shape := ⟨2, ![1024, 1]⟩
abbrev S10 : Shape := ⟨1, ![10]⟩
abbrev S1x10 : Shape := ⟨2, ![1, 10]⟩
abbrev S1024x10 : Shape := ⟨2, ![1024, 10]⟩
abbrev S10x1024 : Shape := ⟨2, ![10, 1024]⟩
abbrev S64x1024 : Shape := ⟨2, ![64, 1024]⟩
abbrev S64x10x1 : Shape := ⟨3, ![64, 10, 1]⟩
abbrev S64x10x10 : Shape := ⟨3, ![64, 10, 10]⟩
abbrev S1x1x32768 : Shape := ⟨3, ![1, 1, 32768]⟩
abbrev S64x10x32768 : Shape := ⟨3, ![64, 10, 32768]⟩
abbrev S64x1x32768 : Shape := ⟨3, ![64, 1, 32768]⟩
abbrev S64 : Shape := ⟨1, ![64]⟩
abbrev S64x1 : Shape := ⟨2, ![64, 1]⟩
abbrev S64x1x1 : Shape := ⟨3, ![64, 1, 1]⟩
abbrev S1 : Shape := ⟨1, ![1]⟩
abbrev S1x1x1 : Shape := ⟨3, ![1, 1, 1]⟩
abbrev S640 : Shape := ⟨1, ![640]⟩

abbrev nBuf : Space → Nat
  | .hbm => 135
  | .vmem => 0
  | .smem => 0
  | _ => 0

abbrev hbmTy0_0 (i : Nat) : BufTy := match i % 128 with
  | 0 => ⟨S64x32768, .f32⟩
  | 1 => ⟨S_, .f32⟩
  | 2 => ⟨S64x32768, .f32⟩
  | 3 => ⟨S64x32768, .i1⟩
  | 4 => ⟨S64x32768, .f32⟩
  | 5 => ⟨S64x32768, .f32⟩
  | 6 => ⟨S64x32768, .f32⟩
  | 7 => ⟨S64x10, .f32⟩
  | 8 => ⟨S64x10, .i32⟩
  | 9 => ⟨S64x10, .f32⟩
  | 10 => ⟨S1024, .i32⟩
  | 11 => ⟨S1024x1, .i32⟩
  | 12 => ⟨S10, .i32⟩
  | 13 => ⟨S1x10, .i32⟩
  | 14 => ⟨S1024x10, .i32⟩
  | 15 => ⟨S1024x10, .i32⟩
  | 16 => ⟨S1024x10, .i32⟩
  | 17 => ⟨S_, .i32⟩
  | 18 => ⟨S1024x10, .i32⟩
  | 19 => ⟨S1024x10, .i32⟩
  | 20 => ⟨S1024x10, .f32⟩
  | 21 => ⟨S10x1024, .f32⟩
  | 22 => ⟨S64x1024, .f32⟩
  | 23 => ⟨S64x1024, .f32⟩
  | 24 => ⟨S64x10, .f32⟩
  | 25 => ⟨S64x10, .i32⟩
  | 26 => ⟨S_, .i32⟩
  | 27 => ⟨S64x10, .i32⟩
  | 28 => ⟨S64x10, .i1⟩
  | 29 => ⟨S_, .i32⟩
  | 30 => ⟨S64x10, .i32⟩
  | 31 => ⟨S64x10, .i32⟩
  | 32 => ⟨S64x10, .i32⟩
  | 33 => ⟨S64x10x1, .i32⟩
  | 34 => ⟨S64x10x10, .f32⟩
  | 35 => ⟨S64x10x1, .i32⟩
  | 36 => ⟨S1x1x32768, .i32⟩
  | 37 => ⟨S64x10x32768, .i32⟩
  | 38 => ⟨S64x10x32768, .i32⟩
  | 39 => ⟨S64x10x32768, .i1⟩
  | 40 => ⟨S64x10x32768, .f32⟩
  | 41 => ⟨S64x10x32768, .f32⟩
  | 42 => ⟨S64x1x32768, .f32⟩
  | 43 => ⟨S_, .f32⟩
  | 44 => ⟨S64x10x32768, .f32⟩
  | 45 => ⟨S64x10x32768, .f32⟩
  | 46 => ⟨S64x10x32768, .f32⟩
  | 47 => ⟨S64x10x32768, .f32⟩
  | 48 => ⟨S64x1x32768, .f32⟩
  | 49 => ⟨S_, .f32⟩
  | 50 => ⟨S64x1x32768, .f32⟩
  | 51 => ⟨S64x1x32768, .f32⟩
  | 52 => ⟨S64x10x32768, .f32⟩
  | 53 => ⟨S64x10x32768, .f32⟩
  | 54 => ⟨S64x10x32768, .f32⟩
  | 55 => ⟨S64x10, .f32⟩
  | 56 => ⟨S64x10, .f32⟩
  | 57 => ⟨S64x10, .f32⟩
  | 58 => ⟨S_, .f32⟩
  | 59 => ⟨S_, .f32⟩
  | 60 => ⟨S64x10, .f32⟩
  | 61 => ⟨S10, .f32⟩
  | 62 => ⟨S_, .f32⟩
  | 63 => ⟨S10, .f32⟩
  | 64 => ⟨S10, .f32⟩
  | 65 => ⟨S1x10, .f32⟩
  | 66 => ⟨S64x10, .f32⟩
  | 67 => ⟨S64x10, .f32⟩
  | 68 => ⟨S_, .f32⟩
  | 69 => ⟨S64x10, .f32⟩
  | 70 => ⟨S64x10, .f32⟩
  | 71 => ⟨S64x10, .i1⟩
  | 72 => ⟨S64x10, .i32⟩
  | 73 => ⟨S_, .i32⟩
  | 74 => ⟨S64, .i32⟩
  | 75 => ⟨S_, .i32⟩
  | 76 => ⟨S64, .i32⟩
  | 77 => ⟨S64, .i32⟩
  | 78 => ⟨S64x1, .i32⟩
  | 79 => ⟨S_, .i32⟩
  | 80 => ⟨S64x1, .i32⟩
  | 81 => ⟨S64x1, .i1⟩
  | 82 => ⟨S_, .i32⟩
  | 83 => ⟨S64x1, .i32⟩
  | 84 => ⟨S64x1, .i32⟩
  | 85 => ⟨S64x1, .i32⟩
  | 86 => ⟨S64x1x1, .i32⟩
  | 87 => ⟨S1, .i32⟩
  | 88 => ⟨S_, .i32⟩
  | 89 => ⟨S64x1x1, .i32⟩
  | 90 => ⟨S64x1x1, .i1⟩
  | 91 => ⟨S1x1x1, .i32⟩
  | 92 => ⟨S64x1x1, .i32⟩
  | 93 => ⟨S64x1x1, .i1⟩
  | 94 => ⟨S64x1x1, .i1⟩
  | 95 => ⟨S_, .i1⟩
  | 96 => ⟨S64x1, .i1⟩
  | 97 => ⟨S64x1, .f32⟩
  | 98 => ⟨S_, .f32⟩
  | 99 => ⟨S64x1, .f32⟩
  | 100 => ⟨S64x1, .f32⟩
  | 101 => ⟨S64, .f32⟩
  | 102 => ⟨S_, .f32⟩
  | 103 => ⟨S64, .f32⟩
  | 104 => ⟨S64, .f32⟩
  | 105 => ⟨S64, .f32⟩
  | 106 => ⟨S64, .f32⟩
  | 107 => ⟨S64x1, .f32⟩
  | 108 => ⟨S64x10, .f32⟩
  | 109 => ⟨S64x10, .f32⟩
  | 110 => ⟨S_, .f32⟩
  | 111 => ⟨S64x10, .f32⟩
  | 112 => ⟨S64x10, .f32⟩
  | 113 => ⟨S640, .f32⟩
  | 114 => ⟨S_, .f32⟩
  | 115 => ⟨S640, .f32⟩
  | 116 => ⟨S640, .i1⟩
  | 117 => ⟨S_, .f32⟩
  | 118 => ⟨S_, .f32⟩
  | 119 => ⟨S640, .f32⟩
  | 120 => ⟨S640, .f32⟩
  | 121 => ⟨S_, .f32⟩
  | 122 => ⟨S640, .f32⟩
  | 123 => ⟨S640, .i1⟩
  | 124 => ⟨S640, .f32⟩
  | 125 => ⟨S640, .f32⟩
  | 126 => ⟨S_, .f32⟩
  | 127 => ⟨S_, .f32⟩
  | _ => ⟨S64x32768, .f32⟩

abbrev hbmTy0_1 (i : Nat) : BufTy := match i % 128 with
  | 0 => ⟨S640, .f32⟩
  | 1 => ⟨S640, .f32⟩
  | 2 => ⟨S_, .f32⟩
  | 3 => ⟨S_, .f32⟩
  | 4 => ⟨S_, .f32⟩
  | 5 => ⟨S_, .f32⟩
  | 6 => ⟨S_, .f32⟩
  | _ => ⟨S64x32768, .f32⟩

abbrev hbmTy (i : Nat) : BufTy := match i / 128 with
  | 0 => hbmTy0_0 i
  | 1 => hbmTy0_1 i
  | _ => ⟨S64x32768, .f32⟩

abbrev bufTy : (tb : Table) → Fin (tcTables nBuf tb) → BufTy
  | .hbm, ⟨i, _⟩ => hbmTy i
  | _, _ => ⟨S64x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_values : Ref sig .tc := ⟨.hbm, 7, rfl⟩
abbrev main_indices : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_values_0 : Ref sig .tc := ⟨.hbm, 24, rfl⟩
abbrev main_indices_1 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_call2_call0_cst : Ref sig .tc := ⟨.hbm, 58, rfl⟩
abbrev main_call2_call0_v0 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_8 : Ref sig .tc := ⟨.hbm, 73, rfl⟩
abbrev main_v53 : Ref sig .tc := ⟨.hbm, 74, rfl⟩
abbrev main_c_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_c_1 : Ref sig .tc := ⟨.hbm, 87, rfl⟩
abbrev main_call3_c_2 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_3 : Ref sig .tc := ⟨.hbm, 95, rfl⟩
abbrev main_call3_v12 : Ref sig .tc := ⟨.hbm, 96, rfl⟩
abbrev main_call3_v13 : Ref sig .tc := ⟨.hbm, 97, rfl⟩
abbrev main_call3_cst : Ref sig .tc := ⟨.hbm, 98, rfl⟩
abbrev main_call3_v14 : Ref sig .tc := ⟨.hbm, 99, rfl⟩
abbrev main_v57 : Ref sig .tc := ⟨.hbm, 100, rfl⟩
abbrev main_v58 : Ref sig .tc := ⟨.hbm, 101, rfl⟩
abbrev main_cst_10 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_11 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_cst_12 : Ref sig .tc := ⟨.hbm, 114, rfl⟩
abbrev main_v69 : Ref sig .tc := ⟨.hbm, 115, rfl⟩
abbrev main_v70 : Ref sig .tc := ⟨.hbm, 116, rfl⟩
abbrev main_cst_13 : Ref sig .tc := ⟨.hbm, 117, rfl⟩
abbrev main_call4_v0 : Ref sig .tc := ⟨.hbm, 118, rfl⟩
abbrev main_call4_v1 : Ref sig .tc := ⟨.hbm, 119, rfl⟩
abbrev main_v71 : Ref sig .tc := ⟨.hbm, 120, rfl⟩
abbrev main_cst_14 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_cst_15 : Ref sig .tc := ⟨.hbm, 126, rfl⟩
abbrev main_call5_v0 : Ref sig .tc := ⟨.hbm, 127, rfl⟩
abbrev main_call5_v1 : Ref sig .tc := ⟨.hbm, 128, rfl⟩
abbrev main_v76 : Ref sig .tc := ⟨.hbm, 129, rfl⟩
abbrev main_cst_16 : Ref sig .tc := ⟨.hbm, 130, rfl⟩
abbrev main_v77 : Ref sig .tc := ⟨.hbm, 131, rfl⟩
abbrev main_v78 : Ref sig .tc := ⟨.hbm, 132, rfl⟩
abbrev main_cst_17 : Ref sig .tc := ⟨.hbm, 133, rfl⟩
abbrev main_v79 : Ref sig .tc := ⟨.hbm, 134, rfl⟩

abbrev nD : Nat := 1
abbrev τ : Topo := Topo.v7x

variable {F : FTy → Type} [FloatOps F]
-- ==== Proof.Picks.lean ====
/- Taking the least entry of a row again and again, each entry taken being replaced by infinity: which entry each
   round takes, and that these are the entries a stable sort puts first. -/
module

public import Mathlib.Data.EReal.Basic
public import Mathlib.Data.Fintype.Card
public import Mathlib.Data.Finset.Lattice.Fold
public import Idealize.ShloMosaic.Lib.SortPrefix

@[expose] public section

noncomputable section

namespace Picks

open Idealize.ShloMosaic

variable {n : ℕ}

/-- `p` is the first of the places where the row `f` is least. -/
def IsFirst (f : Fin n → EReal) (p : Fin n) : Prop :=
  (∀ q, f p ≤ f q) ∧ ∀ q, q < p → f p < f q

/-- A row has at most one first least place. -/
theorem IsFirst.unique {f : Fin n → EReal} {p q : Fin n} (hp : IsFirst f p) (hq : IsFirst f q) : p = q := by
  rcases lt_trichotomy p q with h | h | h
  · exact absurd (hp.1 q) (not_le.2 (hq.2 p h))
  · exact h
  · exact absurd (hq.1 p) (not_le.2 (hp.2 q h))

/-- A row with at least one entry has a first least place. -/
theorem exists_isFirst [NeZero n] (f : Fin n → EReal) : ∃ p, IsFirst f p := by
  classical
  obtain ⟨a, -, ha⟩ := Finset.exists_min_image Finset.univ f ⟨0, Finset.mem_univ _⟩
  have hne : (Finset.univ.filter fun q : Fin n => f q = f a).Nonempty := ⟨a, by simp⟩
  obtain ⟨p, hp, hmin⟩ := Finset.exists_min_image _ id hne
  have hpa : f p = f a := by simpa using hp
  refine ⟨p, fun q => hpa ▸ ha q (Finset.mem_univ _), fun q hq => ?_⟩
  refine lt_of_le_of_ne (hpa ▸ ha q (Finset.mem_univ _)) fun h => ?_
  exact absurd (hmin q (by simp [← h, hpa])) (not_le.2 hq)

/-- The first least place of a row. -/
def first [NeZero n] (f : Fin n → EReal) : Fin n := (exists_isFirst f).choose

/-- `first` is a first least place. -/
theorem first_spec [NeZero n] (f : Fin n → EReal) : IsFirst f (first f) := (exists_isFirst f).choose_spec

/-- A first least place is `first`. -/
theorem first_eq [NeZero n] {f : Fin n → EReal} {p : Fin n} (hp : IsFirst f p) : first f = p :=
  (first_spec f).unique hp

/-- The row with its first least entry overwritten by `+∞`. -/
def mask [NeZero n] (f : Fin n → EReal) : Fin n → EReal := fun q => if q = first f then ⊤ else f q

/-- The row after `k` rounds of overwriting the first least entry. -/
def rounds [NeZero n] (f : Fin n → EReal) : ℕ → Fin n → EReal
  | 0 => f
  | k + 1 => mask (rounds f k)

/-- The place that round `k` overwrites. -/
def pick [NeZero n] (f : Fin n → EReal) (k : ℕ) : Fin n := first (rounds f k)

section
variable [NeZero n] (f : Fin n → EReal)

/-- A place no earlier round picked still holds its entry. -/
theorem rounds_of_ne (k : ℕ) (q : Fin n) (h : ∀ j < k, pick f j ≠ q) : rounds f k q = f q := by
  induction k with
  | zero => rfl
  | succ k ih =>
    have h1 : q ≠ first (rounds f k) := fun e => h k (Nat.lt_succ_self k) e.symm
    show (if q = first (rounds f k) then ⊤ else rounds f k q) = _
    rw [if_neg h1, ih fun j hj => h j (Nat.lt_succ_of_lt hj)]

/-- A place an earlier round picked holds `+∞`. -/
theorem rounds_of_pick (k j : ℕ) (hj : j < k) : rounds f k (pick f j) = ⊤ := by
  induction k with
  | zero => exact absurd hj (Nat.not_lt_zero j)
  | succ k ih =>
    show (if pick f j = first (rounds f k) then ⊤ else rounds f k (pick f j)) = _
    split_ifs with h
    · rfl
    · rcases Nat.lt_succ_iff_lt_or_eq.1 hj with h' | h'
      · exact ih h'
      · subst h'; exact absurd rfl h

/-- Before round `n` some place is still unpicked. -/
theorem exists_unpicked (k : ℕ) (hk : k < n) : ∃ q, ∀ j < k, pick f j ≠ q := by
  classical
  by_contra hc
  push Not at hc
  have hs : (Finset.univ : Finset (Fin n)) ⊆ (Finset.range k).image (pick f) := fun q _ => by
    obtain ⟨j, hj, e⟩ := hc q
    exact Finset.mem_image.2 ⟨j, Finset.mem_range.2 hj, e⟩
  have := (Finset.card_le_card hs).trans Finset.card_image_le
  simp at this
  omega

variable (hf : ∀ q, f q < ⊤)
include hf

/-- The entry a round picks is below `+∞`. -/
theorem rounds_pick_lt (k : ℕ) (hk : k < n) : rounds f k (pick f k) < ⊤ := by
  obtain ⟨q, hq⟩ := exists_unpicked f k hk
  refine lt_of_le_of_lt ((first_spec (rounds f k)).1 q) ?_
  rw [rounds_of_ne f k q hq]
  exact hf q

/-- Two rounds pick two places. -/
theorem pick_ne (i j : ℕ) (hij : i < j) (hj : j < n) : pick f i ≠ pick f j := fun e => by
  have := rounds_pick_lt f hf j hj
  rw [← e, rounds_of_pick f j i hij] at this
  exact lt_irrefl _ this

/-- The entry a round picks is the row's own. -/
theorem rounds_pick (k : ℕ) (hk : k < n) : rounds f k (pick f k) = f (pick f k) :=
  rounds_of_ne f k _ fun j hj => pick_ne f hf j k hj hk

/-- A place that no round before `i` picked is not before the place round `i` picks, in the order of entry, then place. -/
theorem pick_le (i : ℕ) (hi : i < n) (q : Fin n) (hq : ∀ j < i, pick f j ≠ q) :
    ¬(f q < f (pick f i) ∨ (f q = f (pick f i) ∧ q < pick f i)) := by
  have h1 := rounds_of_ne f i q hq
  have h2 := rounds_pick f hf i hi
  have hs := first_spec (rounds f i)
  rintro (h | ⟨h, h'⟩)
  · exact absurd (hs.1 q) (not_le.2 (by rw [h1]; exact h2 ▸ h))
  · have := hs.2 q h'
    rw [h1] at this
    exact absurd this (by rw [h]; exact h2 ▸ lt_irrefl _)

end

/-- `before f a b`: the entry at `a` is less than the entry at `b`, or equal to it with `a` the earlier place. -/
def before (f : Fin n → EReal) (a b : Fin n) : Bool :=
  decide (f a < f b) || (decide (f a = f b) && decide (a < b))

/-- `before f` is a strict total order. -/
theorem before_strict (f : Fin n → EReal) : StrictTotalBefore (before f) :=
  StrictTotalBefore.of_key_then_position (fun x y => decide (x < y)) f (by simp)
    (fun x y z h1 h2 => by simp only [decide_eq_true_eq] at *; exact lt_trans h1 h2)
    (fun x y => by simpa only [decide_eq_true_eq] using lt_trichotomy x y)

/-- Sorting by entry alone, places with equal entries kept in their order, is sorting by entry, then place. -/
theorem sortedFrom_lt_eq_before (f : Fin n → EReal) :
    sortedFrom (fun a b => decide (f a < f b)) = sortedFrom (before f) := by
  have key : ∀ l : List (Fin n), l.Pairwise (· < ·) →
      stableSort (fun a b => decide (f a < f b)) l = stableSort (before f) l := by
    intro l hl
    induction l with
    | nil => rfl
    | cons a l ih =>
      rw [List.pairwise_cons] at hl
      show insertBefore _ a (stableSort _ l) = insertBefore _ a (stableSort _ l)
      rw [ih hl.2]
      refine insertBefore_congr _ _ a _ fun b hb => ?_
      have hab := hl.1 b ((perm_stableSort _ l).mem_iff.1 hb)
      simp [before, not_lt.2 hab.le]
  funext k
  have hp : sortPositions n (fun a b => decide (f a < f b)) = sortPositions n (before f) :=
    key (List.finRange n) (List.pairwise_lt_finRange n)
  unfold sortedFrom
  rw [List.get_of_eq hp]
  rfl

/-- The `i`-th place of a row sorted by entry is the place that masking round `i` picks. -/
theorem sortedFrom_eq_pick [NeZero n] (f : Fin n → EReal) (hf : ∀ q, f q < ⊤) {k : ℕ} (hk : k ≤ n) (i : Fin k) :
    sortedFrom (fun a b => decide (f a < f b)) (i.castLE hk) = pick f i := by
  rw [sortedFrom_lt_eq_before]
  have hnot : ∀ a b, ¬(f a < f b ∨ (f a = f b ∧ a < b)) → before f a b = false := fun a b h => by
    rw [Bool.eq_false_iff]
    simpa [before] using h
  refine (before_strict f).sortedFrom_eq_of_prefix hk (fun i : Fin k => pick f i) ?_ ?_ ?_ i
  · intro i j e
    rcases lt_trichotomy i j with h | h | h
    · exact absurd e (pick_ne f hf i j h (by omega))
    · exact h
    · exact absurd e.symm (pick_ne f hf j i h (by omega))
  · intro i j h
    exact hnot _ _ (pick_le f hf i (by omega) _ fun l hl => pick_ne f hf l j (by omega) (by omega))
  · intro i p hp
    exact hnot _ _ (pick_le f hf i (by omega) _ fun l hl => hp ⟨l, by omega⟩)

end Picks
-- ==== Proof.Steps.lean ====
/- The steps that both kernel bodies repeat (a row's least or greatest entry, where it stands, its masking, the marks,
   the subset sums), stated once for rectangles of any size, and what they are at exact arithmetic. -/
module

public import proofs.«01_k».proof.Proof.Picks
public import Idealize.ShloMosaic.Lib.ValueLayout
public import Idealize.ShloMosaic.Lib.WordCmp
public import Idealize.ShloMosaic.Lib.Pointwise
public import Idealize.ShloMosaic.PureOps.Ideal.Laws

@[expose] public section

noncomputable section

namespace Steps

open Idealize.ShloMosaic

/-- A rectangle of `R` rows by `n` columns. -/
abbrev Rect2 (R n : ℕ) : Shape := ⟨2, ![R, n]⟩
/-- One entry a row. -/
abbrev Col1 (R : ℕ) : Shape := ⟨1, ![R]⟩

/-- What the operations of a masking round ask of a rectangle's shape. -/
structure Sides (R n : ℕ) : Prop where
  /-- The rectangle is reduced along its rows. -/
  red : (Rect2 R n).Reduces [1] (Col1 R)
  /-- One entry a row is kept as a column. -/
  cast : (Col1 R).ShapeCasts (Rect2 R 1)
  /-- A column is spread over the rectangle. -/
  bc : (Rect2 R 1).Broadcasts (Rect2 R n)
  /-- The columns are numbered. -/
  io : (Rect2 R n).Iotas .tc 32 [1]
  /-- A column number is a 32-bit word that is not negative. -/
  lt : n < 2 ^ 31

section Defs
variable {F : FTy → Type} [FloatOps F] {R n : ℕ} (h : Sides R n)

/-- The least entry of each row. -/
def least (w : FVec F (Rect2 R n) .f32) : FVec F (Rect2 R 1) .f32 :=
  shapeCast (Rect2 R 1) (multiReduction .minimumf [1] (Col1 R) w 0x7F800000#32 h.red (.inl rfl) rfl) h.cast

/-- The greatest entry of each row. -/
def greatest (w : FVec F (Rect2 R n) .f32) : FVec F (Rect2 R 1) .f32 :=
  shapeCast (Rect2 R 1) (multiReduction .maximumf [1] (Col1 R) w 0xFF800000#32 h.red (.inl rfl) rfl) h.cast

/-- The first column of each row whose entry equals the row's entry of `m`. -/
def place (w : FVec F (Rect2 R n) .f32) (m : FVec F (Rect2 R 1) .f32) : IVec (Rect2 R 1) 32 :=
  shapeCast (Rect2 R 1) (multiReductionI .minsi [1] (Col1 R)
    (select (cmpf .oeq w (broadcastTo (Rect2 R n) m h.bc)) (iota .tc (Rect2 R n) 32 [1] h.io)
      (broadcast (Rect2 R n) (BitVec.ofNat 32 n))) 2147483647#32 h.red rfl) h.cast

/-- The entries at the columns that `g` names. -/
def hit (g : IVec (Rect2 R 1) 32) : IVec (Rect2 R n) 1 :=
  cmpi .eq (iota .tc (Rect2 R n) 32 [1] h.io) (broadcastTo (Rect2 R n) g h.bc)

/-- The first column of each row that holds the row's least entry. -/
def argLeast (w : FVec F (Rect2 R n) .f32) : IVec (Rect2 R 1) 32 := place h w (least h w)

/-- The rectangle with each row's first least entry overwritten by `+∞`. -/
def nextMin (w : FVec F (Rect2 R n) .f32) : FVec F (Rect2 R n) .f32 :=
  select (hit h (argLeast h w)) (broadcast (Rect2 R n) (Scalar.ofBits .f32 0x7F800000#32)) w

/-- The rectangle with each row's first greatest entry overwritten by `-∞`. -/
def nextMax (w : FVec F (Rect2 R n) .f32) : FVec F (Rect2 R n) .f32 :=
  select (hit h (place h w (greatest h w))) (broadcast (Rect2 R n) (Scalar.ofBits .f32 0xFF800000#32)) w

/-- The rectangle before round `k` of taking the least entries. -/
def workMin (w : FVec F (Rect2 R n) .f32) : ℕ → FVec F (Rect2 R n) .f32
  | 0 => w
  | k + 1 => nextMin h (workMin w k)

/-- Rounds after rounds are rounds. -/
theorem workMin_add (w : FVec F (Rect2 R n) .f32) (a b : ℕ) : workMin h (workMin h w a) b = workMin h w (a + b) := by
  induction b with
  | zero => rfl
  | succ b ih => exact congrArg (nextMin h) ih

/-- The rectangle before round `k` of taking the greatest entries. -/
def workMax (w : FVec F (Rect2 R n) .f32) : ℕ → FVec F (Rect2 R n) .f32
  | 0 => w
  | k + 1 => nextMax h (workMax w k)

/-- Rounds after rounds are rounds. -/
theorem workMax_add (w : FVec F (Rect2 R n) .f32) (a b : ℕ) : workMax h (workMax h w a) b = workMax h w (a + b) := by
  induction b with
  | zero => rfl
  | succ b ih => exact congrArg (nextMax h) ih

/-- The numbers' bits at place `t`, as floats. -/
def bitCol (t : BitVec 32) : FVec F (Rect2 R n) .f32 :=
  sitofp .f32 (andi (shrsi (iota .tc (Rect2 R n) 32 [1] h.io) (broadcast (Rect2 R n) t)) (broadcast (Rect2 R n) 1#32))

/-- The sums, over the first `k` bits of each column's number, of the bits that are set times the rows' entries `m`. -/
def subsetSum (m : ℕ → FVec F (Rect2 R 1) .f32) : ℕ → FVec F (Rect2 R n) .f32
  | 0 => broadcast (Rect2 R n) (Scalar.ofBits .f32 0x00000000#32)
  | k + 1 => addf (subsetSum m k) (mulf (bitCol h (BitVec.ofNat 32 k)) (broadcastTo (Rect2 R n) (m k) h.bc))

/-- The words that hold `2 ^ t` where round `t` picked, for the first `k` rounds, and zero elsewhere. -/
def marks (w : FVec F (Rect2 R n) .f32) : ℕ → IVec (Rect2 R n) 32
  | 0 => broadcast (Rect2 R n) 0#32
  | k + 1 => select (hit h (argLeast h (workMin h w k))) (broadcast (Rect2 R n) (BitVec.ofNat 32 (2 ^ k))) (marks w k)

end Defs

section Read
variable {R n : ℕ} (h : Sides R n)

/-- A vector cast to a column holds, in row `r`, the vector's entry `r`. -/
theorem cast_apply {α : Type} (x : (Col1 R).Idx → α) (hc : (Col1 R).ShapeCasts (Rect2 R 1)) (r : Fin R) :
    shapeCast (Rect2 R 1) x hc (ix2 r 0) = x (ix1 r) :=
  shapeCast_apply x hc _ _ (by
    rw [Shape.rowMajor_val_two, Shape.rowMajor_val_one]
    show r.val = r.val * 1 + 0
    omega)

/-- A column spread over a rectangle holds, in row `r`, the column's entry of row `r`. -/
theorem spread_apply {α : Type} (x : (Rect2 R 1).Idx → α) (hb : (Rect2 R 1).Broadcasts (Rect2 R n)) (r : Fin R) (q : Fin n) :
    broadcastTo (Rect2 R n) x hb (ix2 r q) = x (ix2 r 0) := by
  refine broadcastTo_apply x hb (ix2 r q) (ix2 r 0) fun ax => ?_
  match ax with
  | ⟨0, _⟩ =>
    show r.val = if R = 1 then 0 else r.val
    split
    · have := r.isLt; omega
    · rfl
  | ⟨1, _⟩ => rfl

/-- The column numbers. -/
theorem iota_apply (hio : (Rect2 R n).Iotas .tc 32 [1]) (r : Fin R) (q : Fin n) :
    iota .tc (Rect2 R n) 32 [1] hio (ix2 r q) = BitVec.ofNat 32 q.val :=
  iota_single_apply .tc (Rect2 R n) 32 1 hio _

/-- The index of a rectangle that drops to row `r`, column `q` inserted. -/
theorem lift_eq (hr : (Rect2 R n).Reduces [1] (Col1 R)) (r : Fin R) (q : Fin n) : hr.lift (ix1 r) q = ix2 r q := by
  funext a
  match a with
  | ⟨0, _⟩ => rfl
  | ⟨1, _⟩ => rfl

/-- Row `r` of a rectangle. -/
def row (w : FVec Ideal (Rect2 R n) .f32) (r : Fin R) : Fin n → EReal := fun q => w (ix2 r q)

/-- Row `r` of a rectangle, every entry negated. -/
def negRow (w : FVec Ideal (Rect2 R n) .f32) (r : Fin R) : Fin n → EReal := fun q => -(row w r q)

/-- The least entry of row `r`, the fold over the row. -/
theorem fold_min_eq (f : Fin n → EReal) (p : Fin n) (hp : ∀ q, f p ≤ f q) :
    (Finset.univ : Finset (Fin n)).fold min ⊤ f = f p := by
  apply le_antisymm
  · exact (Finset.fold_min_le _).2 (.inr ⟨p, Finset.mem_univ _, le_rfl⟩)
  · exact (Finset.le_fold_min _).2 ⟨le_top, fun q _ => hp q⟩

/-- The greatest entry of a row, as the fold over the row. -/
theorem fold_max_eq (f : Fin n → EReal) (p : Fin n) (hp : ∀ q, f q ≤ f p) :
    (Finset.univ : Finset (Fin n)).fold max ⊥ f = f p := by
  apply le_antisymm
  · exact (Finset.fold_max_le _).2 ⟨bot_le, fun q _ => hp q⟩
  · exact (Finset.le_fold_max _).2 (.inr ⟨p, Finset.mem_univ _, le_rfl⟩)

/-- The least of a family of words, read as signed numbers. -/
theorem fold_minsi_eq (g : Fin n → BitVec 32) (init : BitVec 32) (p : Fin n) (hi : (g p).toInt ≤ init.toInt)
    (hp : ∀ q, (g p).toInt ≤ (g q).toInt) : (Finset.univ : Finset (Fin n)).fold IntOp.minsi init g = g p := by
  apply BitVec.eq_of_toInt_eq
  rw [← Finset.fold_hom (op' := min) (m := BitVec.toInt) (fun x y => ?_)]
  · apply le_antisymm
    · exact (Finset.fold_min_le _).2 (.inr ⟨p, Finset.mem_univ _, le_rfl⟩)
    · exact (Finset.le_fold_min _).2 ⟨hi, fun q _ => hp q⟩
  · unfold IntOp.minsi
    by_cases hxy : x.toInt < y.toInt
    · simp [BitVec.slt, hxy, hxy.le]
    · simp [BitVec.slt, hxy, not_lt.1 hxy]

/-- The word `0x7F800000` is `+∞`. -/
theorem ofBits_pinf : Ideal.ofBits .f32 0x7F800000#32 = ⊤ := by simp [Ideal.ofBits, Ideal.ieee]
/-- The word `0xFF800000` is `-∞`. -/
theorem ofBits_ninf : Ideal.ofBits .f32 0xFF800000#32 = ⊥ := by simp [Ideal.ofBits, Ideal.ieee]

variable [NeZero n]

/-- The least entry of each row, read: the row's entry at its first least place. -/
theorem least_apply (w : FVec Ideal (Rect2 R n) .f32) (r : Fin R) :
    least h w (ix2 r 0) = row w r (Picks.first (row w r)) := by
  unfold least
  rw [cast_apply]
  refine (multiReduction_minimumf_eq_fold _ _ _ _ _ _).trans ?_
  rw [h.red.fold_filter_drop_single]
  refine Eq.trans ?_ (fold_min_eq (row w r) _ (Picks.first_spec (row w r)).1)
  show (Finset.univ : Finset (Fin n)).fold min (Ideal.ofBits .f32 0x7F800000#32) (w ∘ h.red.lift (ix1 r)) = _
  rw [ofBits_pinf]
  congr 1
  funext q
  exact congrArg w (lift_eq h.red r q)

/-- The greatest entry of each row, read: the row's entry at the first least place of the negated row. -/
theorem greatest_apply (w : FVec Ideal (Rect2 R n) .f32) (r : Fin R) :
    greatest h w (ix2 r 0) = row w r (Picks.first (negRow w r)) := by
  unfold greatest
  rw [cast_apply]
  refine (multiReduction_maximumf_eq_fold _ _ _ _ _ _).trans ?_
  rw [h.red.fold_filter_drop_single]
  refine Eq.trans ?_ (fold_max_eq (row w r) _ fun q => EReal.neg_le_neg_iff.1 ((Picks.first_spec (negRow w r)).1 q))
  show (Finset.univ : Finset (Fin n)).fold max (Ideal.ofBits .f32 0xFF800000#32) (w ∘ h.red.lift (ix1 r)) = _
  rw [ofBits_ninf]
  congr 1
  funext q
  exact congrArg w (lift_eq h.red r q)

/-- A column number read as a signed word is itself. -/
theorem toInt_col (k : ℕ) (hk : k < 2 ^ 31) : (BitVec.ofNat 32 k).toInt = k := by
  rw [BitVec.toInt_eq_toNat_cond, BitVec.toNat_ofNat]
  omega

/-- The first column of row `r` that holds the entry `m` of that row is `p`, when `p` holds it and no column before does. -/
theorem place_apply (w : FVec Ideal (Rect2 R n) .f32) (m : FVec Ideal (Rect2 R 1) .f32) (r : Fin R) (p : Fin n)
    (hp : row w r p = m (ix2 r 0)) (hlt : ∀ q, q < p → row w r q ≠ m (ix2 r 0)) :
    place h w m (ix2 r 0) = BitVec.ofNat 32 p.val := by
  unfold place
  rw [cast_apply]
  refine (multiReductionI_eq_fold _ _ _ _ _ _).trans ?_
  rw [h.red.fold_filter_drop_single]
  have hn := h.lt
  have hg : ∀ q : Fin n, (select (cmpf .oeq w (broadcastTo (Rect2 R n) m h.bc)) (iota .tc (Rect2 R n) 32 [1] h.io)
      (broadcast (Rect2 R n) (BitVec.ofNat 32 n)) ∘ h.red.lift (ix1 r)) q
      = if row w r q = m (ix2 r 0) then BitVec.ofNat 32 q.val else BitVec.ofNat 32 n := fun q => by
    show Scalar.select (Ideal.cmp .oeq (w (h.red.lift (ix1 r) q)) (broadcastTo (Rect2 R n) m h.bc (h.red.lift (ix1 r) q)))
      (iota .tc (Rect2 R n) 32 [1] h.io (h.red.lift (ix1 r) q)) (BitVec.ofNat 32 n) = _
    rw [lift_eq, spread_apply, iota_apply]
    show Scalar.select (BitVec.ofBool (decide (row w r q = m (ix2 r 0)))) _ _ = _
    by_cases hq : row w r q = m (ix2 r 0)
    · rw [if_pos hq, decide_eq_true hq]; rfl
    · rw [if_neg hq, decide_eq_false hq]; rfl
  have hval : ∀ q : Fin n, ((select (cmpf .oeq w (broadcastTo (Rect2 R n) m h.bc)) (iota .tc (Rect2 R n) 32 [1] h.io)
      (broadcast (Rect2 R n) (BitVec.ofNat 32 n)) ∘ h.red.lift (ix1 r)) q).toInt
      = if row w r q = m (ix2 r 0) then (q.val : ℤ) else n := fun q => by
    rw [hg]
    split_ifs
    · exact toInt_col _ (q.isLt.trans hn)
    · exact toInt_col _ hn
  refine (fold_minsi_eq _ _ p ?_ fun q => ?_).trans ((hg p).trans (if_pos hp))
  · rw [hval, if_pos hp]
    show (p.val : ℤ) ≤ 2147483647
    have := p.isLt
    omega
  · rw [hval, hval, if_pos hp]
    split_ifs with hq
    · have := not_lt.1 fun hlt' => hlt q hlt' hq
      exact_mod_cast this
    · have := p.isLt
      omega

/-- The first column that holds a row's least entry is the row's first least place. -/
theorem argLeast_apply (w : FVec Ideal (Rect2 R n) .f32) (r : Fin R) :
    argLeast h w (ix2 r 0) = BitVec.ofNat 32 (Picks.first (row w r)).val :=
  place_apply h w _ r _ (least_apply h w r).symm fun q hq e =>
    absurd ((Picks.first_spec (row w r)).2 q hq) (by rw [e, least_apply]; exact lt_irrefl _)

/-- The first column that holds a row's greatest entry is the first least place of the negated row. -/
theorem argGreatest_apply (w : FVec Ideal (Rect2 R n) .f32) (r : Fin R) :
    place h w (greatest h w) (ix2 r 0) = BitVec.ofNat 32 (Picks.first (negRow w r)).val :=
  place_apply h w _ r _ (greatest_apply h w r).symm fun q hq e =>
    absurd ((Picks.first_spec (negRow w r)).2 q hq) (by
      show ¬ -(row w r _) < -(row w r q)
      rw [e, greatest_apply]; exact lt_irrefl _)

/-- The entries at a named column. -/
theorem hit_apply (g : IVec (Rect2 R 1) 32) (r : Fin R) (p q : Fin n) (hg : g (ix2 r 0) = BitVec.ofNat 32 p.val) :
    hit h g (ix2 r q) = BitVec.ofBool (decide (q = p)) := by
  show IntOp.cmpi .eq (iota .tc (Rect2 R n) 32 [1] h.io (ix2 r q)) (broadcastTo (Rect2 R n) g h.bc (ix2 r q)) = _
  rw [spread_apply, iota_apply, hg, WordCmp.cmpi_eq_eq]
  congr 1
  refine decide_eq_decide.2 ⟨fun e => ?_, fun e => by rw [e]⟩
  have := congrArg BitVec.toInt e
  have hn := h.lt
  rw [toInt_col _ (q.isLt.trans hn), toInt_col _ (p.isLt.trans hn)] at this
  exact Fin.ext (by exact_mod_cast this)

/-- A masking round overwrites the row's first least entry. -/
theorem row_nextMin (w : FVec Ideal (Rect2 R n) .f32) (r : Fin R) : row (nextMin h w) r = Picks.mask (row w r) := by
  funext q
  show Scalar.select (hit h (argLeast h w) (ix2 r q)) (Ideal.ofBits .f32 0x7F800000#32) (row w r q) = _
  rw [hit_apply h _ r _ q (argLeast_apply h w r), ofBits_pinf]
  unfold Picks.mask
  by_cases e : q = Picks.first (row w r)
  · rw [if_pos e, decide_eq_true e]; rfl
  · rw [if_neg e, decide_eq_false e]; rfl

/-- A masking round for the greatest entry overwrites the negated row's first least entry. -/
theorem negRow_nextMax (w : FVec Ideal (Rect2 R n) .f32) (r : Fin R) :
    negRow (nextMax h w) r = Picks.mask (negRow w r) := by
  funext q
  show -(Scalar.select (hit h (place h w (greatest h w)) (ix2 r q)) (Ideal.ofBits .f32 0xFF800000#32) (row w r q)) = _
  rw [hit_apply h _ r _ q (argGreatest_apply h w r), ofBits_ninf]
  unfold Picks.mask
  by_cases e : q = Picks.first (negRow w r)
  · rw [if_pos e, decide_eq_true e]; exact EReal.neg_bot
  · rw [if_neg e, decide_eq_false e]; rfl

/-- The rows of the rectangle after `k` rounds. -/
theorem row_workMin (w : FVec Ideal (Rect2 R n) .f32) (r : Fin R) (k : ℕ) :
    row (workMin h w k) r = Picks.rounds (row w r) k := by
  induction k with
  | zero => rfl
  | succ k ih => rw [workMin, row_nextMin, ih, Picks.rounds]

/-- The negated rows of the rectangle after `k` rounds of taking the greatest entry. -/
theorem negRow_workMax (w : FVec Ideal (Rect2 R n) .f32) (r : Fin R) (k : ℕ) :
    negRow (workMax h w k) r = Picks.rounds (negRow w r) k := by
  induction k with
  | zero => rfl
  | succ k ih => rw [workMax, negRow_nextMax, ih, Picks.rounds]

/-- The entry that round `k` takes. -/
theorem least_workMin (w : FVec Ideal (Rect2 R n) .f32) (r : Fin R) (k : ℕ) (hk : k < n) (hw : ∀ q, row w r q < ⊤) :
    least h (workMin h w k) (ix2 r 0) = row w r (Picks.pick (row w r) k) := by
  rw [least_apply, row_workMin, ← Picks.rounds_pick _ hw k hk, Picks.pick]

/-- The column that round `k` takes. -/
theorem argLeast_workMin (w : FVec Ideal (Rect2 R n) .f32) (r : Fin R) (k : ℕ) :
    argLeast h (workMin h w k) (ix2 r 0) = BitVec.ofNat 32 (Picks.pick (row w r) k).val := by
  rw [argLeast_apply, row_workMin, Picks.pick]

/-- The entries of the column that round `k` takes. -/
theorem hit_workMin (w : FVec Ideal (Rect2 R n) .f32) (r : Fin R) (k : ℕ) (q : Fin n) :
    hit h (argLeast h (workMin h w k)) (ix2 r q) = BitVec.ofBool (decide (q = Picks.pick (row w r) k)) :=
  hit_apply h _ r _ q (argLeast_workMin h w r k)

/-- The entry that round `k` of taking the greatest takes. -/
theorem greatest_workMax (w : FVec Ideal (Rect2 R n) .f32) (r : Fin R) (k : ℕ) (hk : k < n) (hw : ∀ q, negRow w r q < ⊤) :
    greatest h (workMax h w k) (ix2 r 0) = row w r (Picks.pick (negRow w r) k) := by
  rw [greatest_apply, negRow_workMax]
  refine neg_injective ?_
  show negRow (workMax h w k) r (Picks.pick (negRow w r) k) = negRow w r (Picks.pick (negRow w r) k)
  rw [negRow_workMax]
  exact Picks.rounds_pick _ hw k hk

end Read
end Steps
-- ==== Proof.SampleBody.lean ====
/- The first kernel body, for any float values: what it leaves in its output block, in terms of the repeated steps. -/
module

public import proofs.«01_k».proof.Proof.Steps
public import proofs.«01_k».proof.Proof.Gen.KernelIdeal.Frame
public import Idealize.ShloMosaic.Lib.Pipeline.ValueKit.Tiles

@[expose] public section

set_option maxRecDepth 16384

noncomputable section

namespace Sample

open Idealize.ShloMosaic Cert.KernelIdeal Cert.KernelIdeal.Gen Steps

variable {F : FTy → Type} [FloatOps F]

/-- The side conditions of a block of eight rows of logits. -/
theorem sx : Sides 8 32768 :=
  ⟨reduces_S8x32768_S8, shapeCasts_S8_S8x1, broadcasts_S8x1_S8x32768, iota_S8x32768_d1_w32, by decide⟩

/-- The side conditions of a block of eight rows of subset sums. -/
theorem ss : Sides 8 1024 :=
  ⟨reduces_S8x1024_S8, shapeCasts_S8_S8x1, broadcasts_S8x1_S8x1024, iota_S8x1024_d1_w32, by decide⟩

/-- The block before round `k` on the costs. -/
abbrev W (x : Vec F S8x32768 .f32) (k : ℕ) : FVec F S8x32768 .f32 := workMin sx (absf x) k

variable (x : Vec F S8x32768 .f32) (w : FVec F S8x32768 .f32)

/-- The word `+∞` that a round writes. -/
abbrev inf32 : F .f32 := Scalar.ofBits .f32 0x7F800000#32
/-- The block's column numbers. -/
abbrev cols : IVec S8x32768 32 := iota .tc S8x32768 32 [1] iota_S8x32768_d1_w32

/-- The body's intermediate value number 7 is the block of costs before the third round. -/
theorem pay7_eq : k0_pay7 x = W x 2 := rfl
/-- The body's intermediate value number 10 is where the third round takes its cost. -/
theorem pay10_eq : k0_pay10 x = hit sx (argLeast sx (W x 2)) := rfl
/-- The body's intermediate value number 8 is the marks that the first 2 rounds leave on the columns they take. -/
theorem pay8_eq : k0_pay8 x = marks sx (absf x) 2 := rfl
/-- The body's intermediate value number 2 is the cost that the first round takes. -/
theorem pay2_eq : k0_pay2 x = least sx (W x 0) := rfl
/-- The body's intermediate value number 5 is the cost that the second round takes. -/
theorem pay5_eq : k0_pay5 x = least sx (W x 1) := rfl
/-- The body's intermediate value number 9 is the cost that the third round takes. -/
theorem pay9_eq : k0_pay9 x = least sx (W x 2) := rfl
/-- The body's intermediate value number 12 is the least cost of each row of `w` after 1 more round. -/
theorem pay12_eq : k0_pay12 w (hit sx (argLeast sx w)) inf32 = least sx (workMin sx w 1) := rfl
/-- The body's intermediate value number 15 is the least cost of each row of `w` after 2 more rounds. -/
theorem pay15_eq : k0_pay15 cols w (hit sx (argLeast sx w)) inf32 = least sx (workMin sx w 2) := rfl
/-- The body's intermediate value number 19 is the least cost of each row of `w` after 3 more rounds. -/
theorem pay19_eq : k0_pay19 cols w (hit sx (argLeast sx w)) inf32 = least sx (workMin sx w 3) := rfl
/-- The body's intermediate value number 21 is the costs `w` after 4 more rounds. -/
theorem pay21_eq : k0_pay21 cols w (hit sx (argLeast sx w)) inf32 = workMin sx w 4 := rfl
/-- The body's intermediate value number 20 is where each row of `w` holds its least cost after 3 more rounds. -/
theorem pay20_eq : k0_pay20 cols w (hit sx (argLeast sx w)) inf32 = hit sx (argLeast sx (workMin sx w 3)) := rfl
/-- The body's intermediate value number 25 is the least cost of each row of `w` after 1 more round. -/
theorem pay25_eq : k0_pay25 cols w = least sx (workMin sx w 1) := rfl
/-- The body's intermediate value number 28 is the least cost of each row of `w` after 2 more rounds. -/
theorem pay28_eq : k0_pay28 cols w = least sx (workMin sx w 2) := rfl
/-- The body's intermediate value number 30 is the costs `w` after 3 more rounds. -/
theorem pay30_eq : k0_pay30 cols w = workMin sx w 3 := rfl

/-- The body's intermediate value number 18 is the marks that the first 5 rounds leave on the columns they take. -/
theorem pay18_eq : k0_pay18 cols (W x 2) (marks sx (absf x) 2) (hit sx (argLeast sx (W x 2))) inf32
    = marks sx (absf x) 5 := rfl
/-- The body's intermediate value number 31 is the marks that the first 9 rounds leave on the columns they take. -/
theorem pay31_eq : k0_pay31 cols (marks sx (absf x) 5) (hit sx (argLeast sx (W x 5))) (W x 6) 32#32 = marks sx (absf x) 9 := rfl
/-- The body's intermediate value number 33 is the marks that the first 10 rounds leave on the columns they take. -/
theorem pay33_eq : k0_pay33 cols (W x 9) (marks sx (absf x) 9) = marks sx (absf x) 10 := rfl

/-- A load of the whole block reads the block. -/
theorem ld_eq : View.ld x r0_0 = x := View.ld_unit_zero (by funext a; fin_cases a <;> rfl) _ x

/-- The body's intermediate value number 73 is the block of costs before the third round. -/
theorem p73 : k0_pay73 x = W x 2 := by
  unfold k0_pay73; rw [ld_eq]; rfl
/-- The body's intermediate value number 74 is where the third round takes its cost. -/
theorem p74 : k0_pay74 x = hit sx (argLeast sx (W x 2)) := by
  unfold k0_pay74; rw [ld_eq]; rfl
/-- The body's intermediate value number 77 is the block of costs before the seventh round. -/
theorem p77 : k0_pay77 x = W x 6 := by
  unfold k0_pay77; rw [p73, p74]; exact (pay21_eq _).trans (workMin_add sx _ 2 4)
/-- The body's intermediate value number 81 is the block of costs before the tenth round. -/
theorem p81 : k0_pay81 x = W x 9 := by
  unfold k0_pay81; rw [p77]; exact (pay30_eq _).trans (workMin_add sx _ 6 3)
/-- The body's intermediate value number 84 is the marks that the first 10 rounds leave on the columns they take. -/
theorem p84 : k0_pay84 x = marks sx (absf x) 10 := by
  unfold k0_pay84
  rw [p81, p77, p73, p74, ld_eq]
  rfl

/-- The entry that round `k` takes from each row. -/
abbrev C (x : Vec F S8x32768 .f32) (k : ℕ) : FVec F S8x1 .f32 := least sx (W x k)

/-- The sums of the subsets of the ten entries taken. -/
abbrev Q (x : Vec F S8x32768 .f32) : FVec F S8x1024 .f32 := subsetSum ss (C x) 10

/-- The body's intermediate value number 85 is the sums of the subsets of the first four costs taken. -/
theorem p85 : k0_pay85 x = subsetSum ss (C x) 4 := by
  unfold k0_pay85; rw [ld_eq, p73, p74]; rfl
/-- The body's intermediate value number 75 is the cost that the fifth round takes. -/
theorem p75 : k0_pay75 x = C x 4 := by
  unfold k0_pay75; rw [p73, p74]; rfl
/-- The body's intermediate value number 76 is the cost that the sixth round takes. -/
theorem p76 : k0_pay76 x = C x 5 := by
  unfold k0_pay76; rw [p73, p74]; rfl
/-- The body's intermediate value number 78 is the cost that the seventh round takes. -/
theorem p78 : k0_pay78 x = C x 6 := by
  unfold k0_pay78; rw [p77]; rfl
/-- The body's intermediate value number 79 is the cost that the eighth round takes. -/
theorem p79 : k0_pay79 x = C x 7 := by
  unfold k0_pay79; rw [p77]; rfl
/-- The body's intermediate value number 80 is the cost that the ninth round takes. -/
theorem p80 : k0_pay80 x = C x 8 := by
  unfold k0_pay80; rw [p77]; rfl
/-- The body's intermediate value number 83 is the cost that the tenth round takes. -/
theorem p83 : k0_pay83 x = C x 9 := by
  unfold k0_pay83; rw [p81]; rfl
/-- The body's intermediate value number 87 is the sums of the subsets of the ten costs taken. -/
theorem p87 : k0_pay87 x = Q x := by
  unfold k0_pay87; rw [p75, p76, p78, p79, p80, p83, p85]; rfl
/-- The body's intermediate value number 88 is each row's least subset sum. -/
theorem p88 : k0_pay88 x = multiReduction .minimumf [1] S8 (Q x) 0x7F800000#32 reduces_S8x1024_S8 (.inl rfl) rfl := by
  rw [← p87]; rfl
/-- The body's intermediate value number 89 is the subset sums before the fourth round on them. -/
theorem p89 : k0_pay89 x = workMin ss (Q x) 3 := by
  unfold k0_pay89; rw [p87, p88]; rfl
/-- The body's intermediate value number 90 is where the fourth round on the subset sums takes its sum. -/
theorem p90 : k0_pay90 x = hit ss (argLeast ss (workMin ss (Q x) 3)) := by
  unfold k0_pay90; rw [p87, p88]; rfl
/-- The body's intermediate value number 91 is the subset sums before the eighth round on them. -/
theorem p91 : k0_pay91 x = workMin ss (Q x) 7 := by
  unfold k0_pay91; rw [p89, p90]; rfl

/-- The number of the subset that round `j` takes in each row. -/
def best (x : Vec F S8x32768 .f32) (j : ℕ) : IVec S8x1 32 := argLeast ss (workMin ss (Q x) j)

/-- The body's intermediate value number 54 is the number of the subset that the eighth round takes. -/
theorem p54 : k0_pay54 (k0_pay92 x) = best x 7 := by
  unfold k0_pay92; rw [p89, p90]; rfl
/-- The body's intermediate value number 56 is the number of the subset that the ninth round takes. -/
theorem p56 : k0_pay56 (k0_pay82 x) (k0_pay91 x) (k0_pay92 x) = best x 8 := by
  unfold k0_pay92; rw [p91, p89, p90]; rfl
/-- The body's intermediate value number 57 is the number of the subset that the tenth round takes. -/
theorem p57 : k0_pay57 (k0_pay82 x) (k0_pay91 x) (k0_pay92 x) = best x 9 := by
  unfold k0_pay92; rw [p91, p89, p90]; rfl

/-- The block's row of signs, flipped at the entries whose mark is a bit of the row's number `g`. -/
def flips (x : Vec F S8x32768 .f32) (g : IVec S8x1 32) : FVec F S8x32768 .f32 :=
  select (cmpi .ne (andi (broadcastTo S8x32768 g broadcasts_S8x1_S8x32768) (marks sx (absf x) 10)) (broadcast S8x32768 0#32))
    (k0_pay59 x) (k0_pay58 x)

/-- The row that the body stores for round `j`. -/
def stored (x : Vec F S8x32768 .f32) (j : ℕ) : FVec F S8x1x32768 .f32 :=
  shapeCast S8x1x32768 (flips x (best x j)) shapeCasts_S8x32768_S8x1x32768

/-- What the body leaves in its output block: ten rows, one a round. -/
theorem out_eq : out0_1 x = View.canon [⟨r0_10, stored x 9⟩, ⟨r0_9, stored x 8⟩, ⟨r0_8, stored x 7⟩, ⟨r0_7, stored x 6⟩,
    ⟨r0_6, stored x 5⟩, ⟨r0_5, stored x 4⟩, ⟨r0_4, stored x 3⟩, ⟨r0_3, stored x 2⟩, ⟨r0_2, stored x 1⟩, ⟨r0_1, stored x 0⟩] := by
  unfold out0_1
  rw [p57, p56, p54, p84, p87, p88, p89, p90]
  unfold k0_pay93 k0_pay94
  rw [ld_eq]
  rfl

/-- A store of one of the ten rows, read at the entries it holds. -/
theorem stored_at (y : S8x10x32768.Idx) (o : ℕ) (inb : ∀ a, (![0, o, 0] : Fin 3 → ℕ) a + S8x1x32768.size a ≤ S8x10x32768.size a) :
    View.RectAt (Val := Elt F) (e := .f32) y (Rect.unit (s := S8x10x32768) ![0, o, 0] S8x1x32768.size inb) (stored x o)
      (flips x (best x (y 1).val) (ix2 (y 0) (y 2))) := by
  intro z hz
  have h0 : (y 0).val = (z 0).val := by rw [← hz]; show 0 + 1 * (z 0).val = _; omega
  have h1 : (y 1).val = o := by
    have : (z 1).val < 1 := (z 1).isLt
    rw [← hz]; show o + 1 * (z 1).val = _; omega
  have h2 : (y 2).val = (z 2).val := by rw [← hz]; show 0 + 1 * (z 2).val = _; omega
  rw [h1]
  refine shapeCast_apply _ _ z (ix2 (y 0) (y 2)) ?_
  rw [Shape.rowMajor_val_two, Shape.rowMajor_val_three]
  show (y 0).val * 32768 + (y 2).val = ((z 0).val * 1 + (z 1).val) * 32768 + (z 2).val
  have : (z 1).val < 1 := (z 1).isLt
  rw [h0, h2]
  omega

/-- The output block, read: at row `r`, round `j`, column `q`. -/
theorem out_apply (y : S8x10x32768.Idx) : out0_1 x y = flips x (best x (y 1).val) (ix2 (y 0) (y 2)) := by
  rw [out_eq]
  refine View.canon_eq_of_allAt _ _ _ (cover0_1 _ _ _ _ _ _ _ _ _ _ y) ?_
  repeat' refine View.allAt_cons _ _ _ (stored_at x y _ _) ?_
  exact View.allAt_nil _ _

end Sample
-- ==== Proof.SampleSpec.lean ====
/- The samples of one row of logits, as plain mathematics. -/
module

public import proofs.«01_k».proof.Proof.Steps
public import Mathlib.Algebra.BigOperators.Fin

@[expose] public section

noncomputable section

namespace Spec

open Idealize.ShloMosaic

/-- The cost of flipping each sign of a row of logits: the logit's absolute value. -/
def cost (x : Fin 32768 → EReal) : Fin 32768 → EReal := fun q => max (x q) (-(x q))

/-- Bit `t` of `s`, as a number. -/
def bit (s t : ℕ) : EReal := if s.testBit t then 1 else 0

/-- The cost of flipping a subset, numbered by its bits, of ten signs. -/
def subset (c : ℕ → EReal) : Fin 1024 → EReal := fun s => ∑ t ∈ Finset.range 10, bit s.val t * c t

/-- The costs of the subsets of the ten cheapest signs of a row. -/
def subsets (x : Fin 32768 → EReal) : Fin 1024 → EReal := subset fun t => cost x (Picks.pick (cost x) t)

/-- The number of the `j`-th cheapest subset. -/
def bestOf (x : Fin 32768 → EReal) (j : ℕ) : Fin 1024 := Picks.pick (subsets x) j

/-- The `j`-th cheapest subset flips the sign at `q`. -/
def Flip (x : Fin 32768 → EReal) (j : ℕ) (q : Fin 32768) : Prop :=
  ∃ t : Fin 10, q = Picks.pick (cost x) t ∧ (bestOf x j).val.testBit t = true

/-- One at a positive number, zero elsewhere. -/
def pos (v : EReal) : EReal := if 0 < v then 1 else 0

open Classical in
/-- The `j`-th sample of a row: the signs, flipped at the `j`-th cheapest subset. -/
def sample (x : Fin 32768 → EReal) (j : ℕ) (q : Fin 32768) : EReal :=
  if Flip x j q then 1 - pos (x q) else pos (x q)

/-- The cost of a finite logit is below `+∞`. -/
theorem cost_lt {x : Fin 32768 → EReal} (hx : ∀ q, max (x q) (-(x q)) < ⊤) : ∀ q, cost x q < ⊤ := hx

/-- A cost is not negative. -/
theorem cost_nonneg (x : Fin 32768 → EReal) (q : Fin 32768) : 0 ≤ cost x q := by
  unfold cost
  rcases le_total 0 (x q) with h | h
  · exact le_max_of_le_left h
  · exact le_max_of_le_right (by simpa using EReal.neg_le_neg_iff.2 h)

/-- The costs of the subsets of a finite row are below `+∞`. -/
theorem subsets_lt {x : Fin 32768 → EReal} (hx : ∀ q, cost x q < ⊤) (s : Fin 1024) : subsets x s < ⊤ := by
  unfold subsets subset
  have key : ∀ k : ℕ, (0 : EReal) ≤ (∑ t ∈ Finset.range k, bit s.val t * cost x (Picks.pick (cost x) t))
      ∧ (∑ t ∈ Finset.range k, bit s.val t * cost x (Picks.pick (cost x) t)) < ⊤ := by
    intro k
    induction k with
    | zero => simp
    | succ k ih =>
      rw [Finset.sum_range_succ]
      have h1 : 0 ≤ bit s.val k * cost x (Picks.pick (cost x) k) ∧ bit s.val k * cost x (Picks.pick (cost x) k) < ⊤ := by
        unfold bit
        split_ifs
        · rw [one_mul]; exact ⟨cost_nonneg x _, hx _⟩
        · simp
      exact ⟨add_nonneg ih.1 h1.1, EReal.add_lt_top ih.2.ne h1.2.ne⟩
  exact (key 10).2

/-- A bit of a small number, by a shift and a mask of its word. -/
theorem bit_word (u : ArithUnit) (s t : ℕ) (hs : s < 2 ^ 31) (ht : t < 32) :
    (IntOp.andi (IntOp.shrsi u (BitVec.ofNat 32 s) (BitVec.ofNat 32 t)) 1#32).toInt = if s.testBit t then 1 else 0 := by
  have hts : (BitVec.ofNat 32 t).toNat = t := by rw [BitVec.toNat_ofNat]; omega
  have hsn : (BitVec.ofNat 32 s).toNat = s := by rw [BitVec.toNat_ofNat]; omega
  have hm : (BitVec.ofNat 32 s).msb = false := by
    rw [BitVec.msb_eq_decide, hsn]; simp; omega
  unfold IntOp.andi IntOp.shrsi
  rw [if_pos (by rw [hts]; exact ht), BitVec.sshiftRight', hts, BitVec.sshiftRight_eq_of_msb_false hm]
  have hn : ((BitVec.ofNat 32 s >>> t) &&& 1#32).toNat = s / 2 ^ t % 2 := by
    rw [BitVec.toNat_and, BitVec.toNat_ushiftRight, hsn, Nat.shiftRight_eq_div_pow]
    exact Nat.and_one_is_mod _
  rw [BitVec.toInt_eq_toNat_of_lt (by rw [hn]; omega), hn, Nat.testBit_eq_decide_div_mod_eq]
  have := Nat.mod_two_eq_zero_or_one (s / 2 ^ t)
  rcases this with h | h <;> simp [h]

/-- The same bit, as a float. -/
theorem bit_float (u : ArithUnit) (s t : ℕ) (hs : s < 2 ^ 31) (ht : t < 32) :
    (((IntOp.andi (IntOp.shrsi u (BitVec.ofNat 32 s) (BitVec.ofNat 32 t)) 1#32).toInt : ℝ) : EReal) = bit s t := by
  rw [bit_word u s t hs ht]
  unfold bit
  split_ifs <;> simp

/-- The mask that a marked word and a subset's number share is not zero exactly where the number's bit is set. -/
theorem and_two_pow (b t : ℕ) (hb : b < 1024) (ht : t < 10) :
    BitVec.ofNat 32 b &&& BitVec.ofNat 32 (2 ^ t) ≠ 0#32 ↔ b.testBit t = true := by
  have h2 : BitVec.ofNat 32 (2 ^ t) = BitVec.twoPow 32 t := by
    apply BitVec.eq_of_toNat_eq
    rw [BitVec.toNat_ofNat, BitVec.toNat_twoPow]
  rw [h2, BitVec.and_twoPow, BitVec.getLsbD_ofNat]
  have h3 : BitVec.twoPow 32 t ≠ 0#32 := fun e => by
    have := congrArg BitVec.toNat e
    rw [BitVec.toNat_twoPow] at this
    have h4 : 2 ^ t < 2 ^ 32 := Nat.pow_lt_pow_right (by norm_num) (by omega)
    rw [Nat.mod_eq_of_lt h4] at this
    have := Nat.two_pow_pos t
    simp at *
  have h5 : t < 32 := by omega
  by_cases hbt : b.testBit t <;> simp [hbt, h3, h5]

end Spec

namespace Steps
open Idealize.ShloMosaic

variable {R n : ℕ} (h : Sides R n)

/-- The bits of the column numbers, read. -/
theorem bitCol_apply (t : ℕ) (ht : t < 32) (r : Fin R) (q : Fin n) :
    bitCol (F := Ideal) h (BitVec.ofNat 32 t) (ix2 r q) = Spec.bit q.val t := by
  have hn := h.lt
  rw [← Spec.bit_float .vector q.val t (q.isLt.trans hn) ht]
  show (((IntOp.andi (IntOp.shrsi .vector (iota .tc (Rect2 R n) 32 [1] h.io (ix2 r q)) (BitVec.ofNat 32 t)) 1#32).toInt : ℝ) : EReal) = _
  rw [iota_apply]

/-- The sums over the bits that are set, read. -/
theorem subsetSum_apply (m : ℕ → FVec Ideal (Rect2 R 1) .f32) (k : ℕ) (hk : k ≤ 32) (r : Fin R) (q : Fin n) :
    subsetSum h m k (ix2 r q) = ∑ t ∈ Finset.range k, Spec.bit q.val t * m t (ix2 r 0) := by
  induction k with
  | zero => exact Ideal.ofBits_zero_f32
  | succ k ih =>
    rw [Finset.sum_range_succ, ← ih (by omega), ← bitCol_apply h k (by omega) r q, ← spread_apply (m k) h.bc r q]
    rfl

variable [NeZero n]

/-- Where no round picked, the mark is zero. -/
theorem marks_of_ne (w : FVec Ideal (Rect2 R n) .f32) (r : Fin R) (q : Fin n) (k : ℕ)
    (hq : ∀ t < k, q ≠ Picks.pick (row w r) t) : marks h w k (ix2 r q) = 0#32 := by
  induction k with
  | zero => rfl
  | succ k ih =>
    show Scalar.select (hit h (argLeast h (workMin h w k)) (ix2 r q)) (BitVec.ofNat 32 (2 ^ k)) (marks h w k (ix2 r q)) = _
    rw [hit_workMin, decide_eq_false (hq k (Nat.lt_succ_self k)), ih fun t ht => hq t (by omega)]
    rfl

/-- Where round `t` picked, the mark is `2 ^ t`. -/
theorem marks_of_pick (w : FVec Ideal (Rect2 R n) .f32) (r : Fin R) (hw : ∀ q, row w r q < ⊤) (k t : ℕ) (hk : k ≤ n) (ht : t < k) :
    marks h w k (ix2 r (Picks.pick (row w r) t)) = BitVec.ofNat 32 (2 ^ t) := by
  induction k with
  | zero => omega
  | succ k ih =>
    show Scalar.select (hit h (argLeast h (workMin h w k)) (ix2 r _)) (BitVec.ofNat 32 (2 ^ k)) (marks h w k (ix2 r _)) = _
    rw [hit_workMin]
    by_cases e : t = k
    · subst e; rw [decide_eq_true rfl]; rfl
    · rw [decide_eq_false (Picks.pick_ne _ hw t k (by omega) (by omega)), ih (by omega) (by omega)]; rfl

/-- The test of ten rounds' marks against a number: it is passed where a round whose bit the number has set picked. -/
theorem test_apply (w : FVec Ideal (Rect2 R n) .f32) (r : Fin R) (hw : ∀ q, row w r q < ⊤) (hn : 10 ≤ n) (b : ℕ) (hb : b < 1024) (q : Fin n)
    (P : Prop) [Decidable P] (hP : P ↔ ∃ t : Fin 10, q = Picks.pick (row w r) t ∧ b.testBit t = true) :
    IntOp.cmpi .ne (IntOp.andi (BitVec.ofNat 32 b) (marks h w 10 (ix2 r q))) 0#32
      = BitVec.ofBool (decide P) := by
  rw [WordCmp.cmpi_ne_eq]
  congr 1
  refine decide_eq_decide.2 (Iff.trans ?_ hP.symm)
  by_cases hq : ∃ t : Fin 10, q = Picks.pick (row w r) t
  · obtain ⟨t, rfl⟩ := hq
    rw [marks_of_pick h w r hw 10 t.val hn t.isLt]
    refine (Spec.and_two_pow _ t.val hb t.isLt).trans ⟨fun h => ⟨t, rfl, h⟩, ?_⟩
    rintro ⟨u, hu, h⟩
    have ht := t.isLt
    have hu' := u.isLt
    rcases lt_trichotomy t.val u.val with c | c | c
    · exact absurd hu (Picks.pick_ne _ hw _ _ c (by omega))
    · rw [c]; exact h
    · exact absurd hu.symm (Picks.pick_ne _ hw _ _ c (by omega))
  · rw [marks_of_ne h w r q 10 fun t ht e => hq ⟨⟨t, ht⟩, e⟩]
    refine ⟨fun h => absurd ?_ h, fun ⟨t, h1, _⟩ => absurd ⟨t, h1⟩ hq⟩
    unfold IntOp.andi
    exact BitVec.and_zero

end Steps
-- ==== Proof.SampleRead.lean ====
/- The first kernel body at exact arithmetic: its output block holds the samples of its rows. -/
module

public import proofs.«01_k».proof.Proof.SampleBody
public import proofs.«01_k».proof.Proof.SampleSpec
public import Idealize.ShloMosaic.Lib.IdealHost

@[expose] public section

set_option maxRecDepth 16384

noncomputable section

namespace Sample

open Idealize.ShloMosaic Cert.KernelIdeal Cert.KernelIdeal.Gen Steps

open scoped Classical

variable (x : Vec Ideal S8x32768 .f32) (r : Fin 8)

/-- A row of costs. -/
theorem row_cost : row (absf (F := Ideal) (s := S8x32768) x) r = Spec.cost (row x r) := rfl

/-- The sign of an entry, as a number. -/
theorem sign_apply (q : Fin 32768) : k0_pay58 (F := Ideal) x (ix2 r q) = Spec.pos (row x r q) := by
  show ((((BitVec.ofBool (decide (Ideal.ofBits .f32 0x00000000#32 < x (ix2 r q)))).setWidth 32).toInt : ℝ) : EReal) = _
  rw [Ideal.ofBits_zero_f32]
  unfold Spec.pos row
  by_cases h : (0 : EReal) < x (ix2 r q)
  · rw [if_pos h, decide_eq_true h, show ((BitVec.ofBool true).setWidth 32).toInt = 1 from by decide]; norm_num
  · rw [if_neg h, decide_eq_false h, show ((BitVec.ofBool false).setWidth 32).toInt = 0 from by decide]; norm_num

/-- The flipped sign of an entry. -/
theorem flipped_apply (q : Fin 32768) : k0_pay59 (F := Ideal) x (ix2 r q) = 1 - Spec.pos (row x r q) := by
  show Ideal.ofBits .f32 0x3F800000#32 - k0_pay58 (F := Ideal) x (ix2 r q) = _
  rw [sign_apply, Ideal.ofBits_one_f32]

variable (hx : ∀ q, Spec.cost (row x r) q < ⊤)

include hx

/-- A row of subset sums. -/
theorem row_sums : row (Q x) r = Spec.subsets (row x r) := by
  funext s
  show subsetSum ss (C x) 10 (ix2 r s) = _
  rw [subsetSum_apply ss _ 10 (by omega)]
  unfold Spec.subsets Spec.subset
  refine Finset.sum_congr rfl fun t ht => ?_
  rw [show C x t (ix2 r 0) = _ from least_workMin sx _ r t (by have := Finset.mem_range.1 ht; omega) hx]
  rfl

/-- The number that round `j` takes. -/
theorem best_apply (j : ℕ) : best x j (ix2 r 0) = BitVec.ofNat 32 (Spec.bestOf (row x r) j).val :=
  (argLeast_workMin ss (Q x) r j).trans (congrArg (fun f => BitVec.ofNat 32 (Picks.pick f j).val) (row_sums x r hx))

/-- An entry of the `j`-th row that the body stores is the `j`-th sample of its row of logits. -/
theorem flips_apply (j : ℕ) (q : Fin 32768) : flips x (best x j) (ix2 r q) = Spec.sample (row x r) j q := by
  have e1 : broadcastTo S8x32768 (best x j) broadcasts_S8x1_S8x32768 (ix2 r q) = best x j (ix2 r 0) :=
    spread_apply (R := 8) (n := 32768) (best x j) broadcasts_S8x1_S8x32768 r q
  have e : flips x (best x j) (ix2 r q) = Scalar.select (IntOp.cmpi .ne (IntOp.andi (broadcastTo S8x32768 (best x j) broadcasts_S8x1_S8x32768 (ix2 r q))
    (marks sx (absf (F := Ideal) (s := S8x32768) x) 10 (ix2 r q))) 0#32) (k0_pay59 x (ix2 r q)) (k0_pay58 x (ix2 r q)) := by
    unfold flips; rfl
  rw [e, e1, best_apply x r hx,
    test_apply sx (absf (F := Ideal) (s := S8x32768) x) r hx (by omega) _ (Spec.bestOf (row x r) j).isLt q (Spec.Flip (row x r) j q) Iff.rfl, flipped_apply, sign_apply]
  unfold Spec.sample
  by_cases h : Spec.Flip (row x r) j q
  · rw [if_pos h, decide_eq_true h]; rfl
  · rw [if_neg h, decide_eq_false h]; rfl

end Sample
-- ==== Proof.KernelValue.lean ====
/- From blocks to arrays: what the two regions leave in the arrays of samples, probabilities and losses. -/
module

public import proofs.«01_k».proof.Proof.SampleRead
public import Idealize.ShloMosaic.Lib.Pipeline.ValueKit
public import Idealize.ShloMosaic.Lib.Pipeline.Value

@[expose] public section

set_option maxRecDepth 16384

noncomputable section

namespace KernelValue

open Idealize.ShloMosaic Idealize.ShloMosaic.TcCoe
open Cert.KernelIdeal Cert.KernelIdeal.Gen
open Idealize.ShloMosaic.Pipeline (Dat)

variable (V : (c : Dev nD) → (b : Ref sig .tc) → Buf (Elt Ideal) ((c : Thread nD τ).loc b)) (c : Dev nD)

/-- Row `r` of an array of 64 rows of logits. -/
abbrev rowOf (X : FVec Ideal S64x32768 .f32) (r : Fin 64) : Fin 32768 → EReal := fun q => X (ix2 r q)

/-- The ten samples of every row. -/
def samples (X : FVec Ideal S64x32768 .f32) : FVec Ideal S64x10x32768 .f32 := fun y => Spec.sample (rowOf X (y 0)) (y 1).val (y 2)

/-- The blocks' places: at point `t`, block `t` along the rows. -/
theorem place0 : ∀ t : Fin grid0.N, win0_0.index t = ![t.val, 0] ∧ win0_1.index t = ![t.val, 0, 0] := by decide +kernel

/-- Point `t`'s block of logits, read: rows `8 t` to `8 t + 7`. -/
theorem block_apply (t : Fin cfg0.N) (r : Fin 8) (q : Fin 32768) (h : t.val * 8 + r.val < 64) :
    iblk0 V c 0 t (ix2 r q) = V c main_arg0 (ix2 ⟨t.val * 8 + r.val, h⟩ q) := by
  blk_ext [iblk0, place0 t]

/-- What the body leaves at point `t`, read: the samples of its rows. -/
theorem out_samples (hX : ∀ r q, Spec.cost (rowOf (V c main_arg0) r) q < ⊤) (t : Fin cfg0.N) (y : S8x10x32768.Idx)
    (h : t.val * 8 + (y 0).val < 64) :
    out0_1 (F := Ideal) (iblk0 V c 0 t) y = samples (V c main_arg0) (ix3 ⟨t.val * 8 + (y 0).val, h⟩ (y 1) (y 2)) := by
  have hrow : Steps.row (iblk0 V c 0 t) (y 0) = rowOf (V c main_arg0) ⟨t.val * 8 + (y 0).val, h⟩ :=
    funext fun q => block_apply V c t (y 0) q h
  rw [Sample.out_apply]
  refine (Sample.flips_apply (iblk0 V c 0 t) (y 0) (by rw [hrow]; exact hX _) (y 1).val (y 2)).trans ?_
  rw [hrow]
  rfl

/-- What point `t` writes back is its block of the samples. -/
theorem flushed_samples (hX : ∀ r q, Spec.cost (rowOf (V c main_arg0) r) q < ⊤) (t : Fin cfg0.N) :
    (dat0 V c).flushed 1 t = (win0_1.blk t).view.read (Elt Ideal) (samples (V c main_arg0)) := by
  show (cfg0.win 1).cut (grid0.coords t) ((dat0 V c).after 1 t) = _
  rw [after0_1]
  funext y
  have hN : cfg0.N = 8 := by decide
  have ht := t.isLt
  have hy0 : (y 0).val < 8 := (y 0).isLt
  have hlt : t.val * 8 + (y 0).val < 64 := by omega
  refine (out_samples V c hX t y hlt).trans ?_
  show samples (V c main_arg0) _ = samples (V c main_arg0) ((win0_1.blk t).view.emb y)
  congr 1
  blk_ext [place0 t]

/-- The blocks cover the array. -/
theorem cover_samples (i : S64x10x32768.Idx) : ∃ t : Fin cfg0.N, (cfg0.win 1).flush t = true ∧ i ∈ ((cfg0.win 1).blk t).view.set := by
  have h0 : (i 0).val < 64 := (i 0).isLt
  have h1 : (i 1).val < 10 := (i 1).isLt
  have h2 : (i 2).val < 32768 := (i 2).isLt
  have hN : grid0.N = 8 := by decide
  have hlt : (i 0).val / 8 < grid0.N := by omega
  refine ⟨⟨(i 0).val / 8, hlt⟩, flush0_1 _, ?_⟩
  mem_blk [(place0 ⟨(i 0).val / 8, hlt⟩).2]
  dsimp only
  refine ⟨?_, ?_, ?_⟩ <;> omega

/-- The first region leaves the samples. -/
theorem final_samples (hX : ∀ r q, Spec.cost (rowOf (V c main_arg0) r) q < ⊤) :
    (dat0 V c).arrAt 1 cfg0.N = samples (V c main_arg0) :=
  (dat0 V c).arrAt_eq_of_cover 1 _ (fun t _ => flushed_samples V c hX t) cover_samples

/-- The second region's blocks are the whole arrays. -/
theorem place1 : ∀ t : Fin grid1.N, win1_0.index t = ![0, 0] ∧ win1_1.index t = ![0, 0] ∧ win1_2.index t = ![0, 0] := by
  decide +kernel

/-- The second region's block of scores is all of them. -/
theorem block1 (t : Fin cfg1.N) : (iblk1 V c 0 t : FVec Ideal S64x10 .f32) = V c main_v1 := by
  funext y
  blk_ext [iblk1, place1 t]

/-- What the second region writes back of the distribution. -/
theorem flushed_probs (t : Fin cfg1.N) :
    (dat1 V c).flushed 1 t = (win1_1.blk t).view.read (Elt Ideal) (out1_1 (F := Ideal) (V c main_v1)) := by
  show (cfg1.win 1).cut (grid1.coords t) ((dat1 V c).after 1 t) = _
  rw [after1_1]
  funext y
  refine (congrArg (fun x : FVec Ideal S64x10 .f32 => out1_1 (F := Ideal) x y) (block1 V c t)).trans ?_
  show out1_1 (F := Ideal) (V c main_v1) _ = out1_1 (F := Ideal) (V c main_v1) ((win1_1.blk t).view.emb y)
  congr 1
  blk_ext [place1 t]

/-- What the second region writes back of the loss. -/
theorem flushed_loss (t : Fin cfg1.N) :
    (dat1 V c).flushed 2 t = (win1_2.blk t).view.read (Elt Ideal) (out1_2 (F := Ideal) (V c main_v1)) := by
  show (cfg1.win 2).cut (grid1.coords t) ((dat1 V c).after 2 t) = _
  rw [after1_2]
  funext y
  refine (congrArg (fun x : FVec Ideal S64x10 .f32 => out1_2 (F := Ideal) x y) (block1 V c t)).trans ?_
  show out1_2 (F := Ideal) (V c main_v1) _ = out1_2 (F := Ideal) (V c main_v1) ((win1_2.blk t).view.emb y)
  congr 1
  blk_ext [place1 t]

/-- The second region has a point. -/
theorem lt_N1 : 0 < cfg1.N := by decide

/-- A point's block of the distribution is all of it. -/
theorem mem_probs (t : Fin cfg1.N) (i : S64x10.Idx) : i ∈ ((cfg1.win 1).blk t).view.set := by
  have h0 : (i 0).val < 64 := (i 0).isLt
  have h1 : (i 1).val < 10 := (i 1).isLt
  mem_blk [(place1 t).2.1]
  refine ⟨?_, ?_⟩ <;> omega

/-- A point's block of the loss is all of it. -/
theorem mem_loss (t : Fin cfg1.N) (i : S1x1.Idx) : i ∈ ((cfg1.win 2).blk t).view.set := by
  have h0 : (i 0).val < 1 := (i 0).isLt
  have h1 : (i 1).val < 1 := (i 1).isLt
  mem_blk [(place1 t).2.2]
  refine ⟨?_, ?_⟩ <;> omega

/-- The second region leaves the distribution that its body computes from the scores. -/
theorem final_probs : (dat1 V c).arrAt 1 cfg1.N = out1_1 (F := Ideal) (V c main_v1) :=
  (dat1 V c).arrAt_eq_of_cover 1 _ (fun t _ => flushed_probs V c t) fun i => ⟨⟨0, lt_N1⟩, flush1_1 _, mem_probs _ i⟩

/-- The second region leaves the loss that its body computes from the scores. -/
theorem final_loss : (dat1 V c).arrAt 2 cfg1.N = out1_2 (F := Ideal) (V c main_v1) :=
  (dat1 V c).arrAt_eq_of_cover 2 _ (fun t _ => flushed_loss V c t) fun i => ⟨⟨0, lt_N1⟩, flush1_2 _, mem_loss _ i⟩

end KernelValue
-- ==== Proof.KernelRun.lean ====
/- The idealized kernel's run: the arrays it ends with, as functions of the logits. -/
module

public import proofs.«01_k».proof.Proof.KernelValue
public import Idealize.ShloMosaic.Lib.Claim

@[expose] public section

set_option maxRecDepth 16384

noncomputable section

namespace KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat)

variable {F : FTy → Type} [FloatOps F]
local notation "𝕄" => MT nD τ sig Unit (Elt F) ℕ (UR sig nD τ) ℕ

variable (m : (ℓ : Loc nD τ sig) → Buf (Elt F) ℓ) (ρ : Dev nD → PrngReg)

-- the launch's implicit arguments are found by unifying its conclusion with the statement, through plain definitions
set_option backward.isDefEq.respectTransparency.types false in
/-- Every unscoped buffer ends at the last boundary's contents. -/
theorem run_last : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => h c)

section Results

variable (m : (ℓ : Loc nD τ sig) → Buf (Elt Ideal) ℓ) (ρ : Dev nD → PrngReg) (c : Dev nD)

/-- The logits of device `c`. -/
abbrev logits : FVec Ideal S64x32768 .f32 := m ((c : Thread nD τ).loc main_arg0)

/-- The scores of ten arrays of samples: each sample's inner product with its row of logits. -/
def scoresOf (y : FVec Ideal S64x10x32768 .f32) (x : FVec Ideal S64x32768 .f32) : FVec Ideal S64x10 .f32 :=
  Host.dotGeneral (F := Ideal) dot_S64x10x32768_S64x32768_S64x10_2_1_1_n_0_0 none y x

/-- The scores of the samples of an array of logits. -/
def scores (x : FVec Ideal S64x32768 .f32) : FVec Ideal S64x10 .f32 := scoresOf (KernelValue.samples x) x

variable (hX : ∀ r q, Spec.cost (KernelValue.rowOf (logits m c) r) q < ⊤)

include hX in
/-- After the first region, the samples. -/
theorem W1_samples : W1 m ρ c (Proc.devRef .tc main_v0) = KernelValue.samples (logits m c) :=
  (W1_arr m ρ c 1).trans (KernelValue.final_samples (V0 m ρ) c hX)

include hX in
/-- Before the second region, the scores. -/
theorem W2_scores : W2 m ρ c (Proc.devRef .tc main_v1) = scores (logits m c) := by
  have e : W2 m ρ c (Proc.devRef .tc main_v1)
      = scoresOf (W1 m ρ c (Proc.devRef .tc main_v0)) (W1 m ρ c (Proc.devRef .tc main_arg0)) := by
    show StableHlo.after hostOps1 (W1 m ρ c) (Proc.devRef .tc main_v1) = _
    after_results
    rfl
  rw [e, W1_samples m ρ c hX, W1_args m ρ c main_arg0 (by decide)]
  rfl

include hX in
/-- At the end, the samples. -/
theorem W4_samples : W4 m ρ c (Proc.devRef .tc main_v0) = KernelValue.samples (logits m c) := by
  rw [W4_of m ρ c main_v0 (by decide), W3_of m ρ c main_v0 (by decide), W2_of m ρ c main_v0 (by decide)]
  exact W1_samples m ρ c hX

include hX in
/-- At the end, the distribution. -/
theorem W4_probs : W4 m ρ c (Proc.devRef .tc main_v2_0) = out1_1 (F := Ideal) (scores (logits m c)) := by
  rw [W4_of m ρ c main_v2_0 (by decide)]
  exact (W3_arr m ρ c 1).trans ((KernelValue.final_probs (V2 m ρ) c).trans (congrArg _ (W2_scores m ρ c hX)))

include hX in
/-- At the end, the loss. -/
theorem W4_loss : W4 m ρ c (Proc.devRef .tc main_v3) = shapeCast S_ (out1_2 (F := Ideal) (scores (logits m c))) shapeCasts_S1x1_S_ := by
  have e : W4 m ρ c (Proc.devRef .tc main_v3) = shapeCast S_ (W3 m ρ c (Proc.devRef .tc main_v2_1)) shapeCasts_S1x1_S_ := by
    show StableHlo.after hostOps2 (W3 m ρ c) (Proc.devRef .tc main_v3) = _
    after_results
    rfl
  rw [e]
  exact congrArg (fun x => shapeCast S_ x shapeCasts_S1x1_S_)
    ((W3_arr m ρ c 2).trans ((KernelValue.final_loss (V2 m ρ) c).trans (congrArg _ (W2_scores m ρ c hX))))

end Results

/-- The kernel's run, from finite logits: the samples, the distribution and the loss, the logits unchanged. -/
theorem run (m : (ℓ : Loc nD τ sig) → Buf (Elt Ideal) ℓ) (ρ : Dev nD → PrngReg)
    (hX : ∀ c r q, Spec.cost (KernelValue.rowOf (logits m c) r) q < ⊤) :
    θ_run defs (onTc (τ := τ) (main (F := Ideal))) ⟨m, fun _ => 0, ρ⟩ (fun r => ∀ c : Dev nD,
      r.2.mem ((c : Thread nD τ).loc main_v0) = KernelValue.samples (logits m c)
      ∧ r.2.mem ((c : Thread nD τ).loc main_v2_0) = out1_1 (F := Ideal) (scores (logits m c))
      ∧ r.2.mem ((c : Thread nD τ).loc main_v3) = shapeCast S_ (out1_2 (F := Ideal) (scores (logits m c))) shapeCasts_S1x1_S_
      ∧ r.2.mem ((c : Thread nD τ).loc main_arg0) = m ((c : Thread nD τ).loc main_arg0)) :=
  (θ_run defs _ _).mono (fun _ h c =>
    ⟨(h c _ (mem_uc main_v0 (by decide))).trans (W4_samples m ρ c (hX c)),
      (h c _ (mem_uc main_v2_0 (by decide))).trans (W4_probs m ρ c (hX c)),
      (h c _ (mem_uc main_v3 (by decide))).trans (W4_loss m ρ c (hX c)),
      (h c _ (mem_uc main_arg0 (by decide))).trans (W4_main_arg0 m ρ c)⟩) (run_last m ρ)

end KernelRun
-- ==== Proof.RefTop.lean ====
/- The reference's `top_k` of a row, in terms of the entries that repeated taking takes. -/
module

public import proofs.«01_k».proof.Proof.SampleSpec
public import Idealize.ShloMosaic.Lib.SortFacts

@[expose] public section

noncomputable section

namespace RefTop

open Idealize.ShloMosaic Steps

variable {R n K : ℕ} [NeZero n]

/-- Moving along a row. -/
theorem along_row (r : Fin R) (k k' : Fin n) : (ix2 r k : (Rect2 R n).Idx).along 1 k' = ix2 r k' := by
  funext a
  match a with
  | ⟨0, _⟩ => rfl
  | ⟨1, _⟩ => rfl

/-- The first entries of a row, read. -/
theorem slice_row {α : Type} (v : (Rect2 R n).Idx → α) (h : (Rect2 R n).Slices (fun _ => 0) (Rect2 R K)) (hK : K ≤ n) (r : Fin R) (i : Fin K) :
    extractStridedSlice (Rect2 R K) (fun _ => 0) v h (ix2 r i) = v (ix2 r (i.castLE hK)) := by
  refine congrArg v (funext fun a => Fin.ext ?_)
  match a with
  | ⟨0, _⟩ => exact Nat.zero_add _
  | ⟨1, _⟩ => exact Nat.zero_add _

/-- One negated number is above another exactly when it is the negative of a smaller one. -/
theorem gt_neg (a b : EReal) : (Ideal.cmpTotal .gt (-a) (-b) == 1#1) = decide (a < b) := by
  show (BitVec.ofBool (decide (-b < -a)) == 1#1) = _
  rw [decide_eq_decide.2 EReal.neg_lt_neg_iff]
  cases decide (a < b) <;> rfl

/-- The greatest entries of rows of negated numbers: the rounds' picks, in order. -/
theorem topK_apply (x : FVec Ideal (Rect2 R n) .f32) (h : (Rect2 R n).Slices (fun _ => 0) (Rect2 R K)) (hK : K ≤ n)
    (f : Fin R → Fin n → EReal) (hx : ∀ r q, x (ix2 r q) = -(f r q)) (hf : ∀ r q, f r q < ⊤) (r : Fin R) (i : Fin K) :
    (Host.topK (Rect2 R K) 1 (FloatOps.cmpfTotal (F := Ideal) .gt) x h).1 (ix2 r i) = -(f r (Picks.pick (f r) i))
    ∧ (Host.topK (Rect2 R K) 1 (FloatOps.cmpfTotal (F := Ideal) .gt) x h).2 (ix2 r i) = BitVec.ofNat 32 (Picks.pick (f r) i).val := by
  have hs : sortedFrom (fun k k' : Fin n => Ideal.cmpTotal .gt (x ((ix2 r (i.castLE hK) : (Rect2 R n).Idx).along 1 k))
      (x ((ix2 r (i.castLE hK) : (Rect2 R n).Idx).along 1 k')) == 1#1) (i.castLE hK) = Picks.pick (f r) i := by
    rw [← Picks.sortedFrom_eq_pick (f r) (hf r) hK i]
    congr 1
    funext k k'
    rw [along_row, along_row, hx, hx, gt_neg]
  constructor
  · unfold Host.topK
    dsimp only
    rw [slice_row _ h hK]
    exact (congrArg x (along_row r _ _)).trans ((hx r _).trans (congrArg (fun p => -(f r p)) hs))
  · unfold Host.topK
    dsimp only
    rw [slice_row _ h hK]
    exact (congrArg (iotaInDim (Rect2 R n) 32 1) (along_row r _ _)).trans (congrArg (fun p : Fin n => BitVec.ofNat 32 p.val) hs)

end RefTop
-- ==== Proof.RefSample.lean ====
/- The idealized reference's samples and scores are the idealized kernel's. -/
module

public import proofs.«01_k».proof.Proof.RefTop
public import proofs.«01_k».proof.Proof.KernelRun
public import proofs.«01_k».proof.Proof.Gen.ReferenceIdeal.Run
public import Idealize.ShloMosaic.Lib.Pointwise

@[expose] public section

set_option maxRecDepth 16384

noncomputable section

namespace RefSample

open Idealize.ShloMosaic Idealize.ShloMosaic.StableHlo Cert.ReferenceIdeal Cert.ReferenceIdeal.Gen Cert.ReferenceIdeal.Value Steps

variable (V : Valuation τ sig (Elt Ideal))

/-- The logits. -/
abbrev logits : FVec Ideal S64x32768 .f32 := V (Proc.devRef .tc main_arg0)

/-- A row of logits. -/
abbrev lrow (r : Fin 64) : Fin 32768 → EReal := KernelValue.rowOf (logits V) r

/-- The reference's signs: one where a logit is positive, zero elsewhere. -/
abbrev v2 : FVec Ideal S64x32768 .f32 := res_main_v2 V
/-- The reference's negated costs. -/
abbrev v4 : FVec Ideal S64x32768 .f32 := res_main_v4 V
/-- The reference's table of subsets: row `s` holds the ten bits of `s`. -/
abbrev v15 : FVec Ideal S1024x10 .f32 := res_main_v15 V
/-- The reference's negated subset sums. -/
abbrev v18 : FVec Ideal S64x1024 .f32 := res_main_v18 V
/-- The reference's ten cheapest subsets of each row, as numbers. -/
abbrev best : IVec S64x10 32 := res_main_indices_1 V
/-- The reference's flips: one where a sample differs from the signs, zero elsewhere. -/
abbrev v27 : FVec Ideal S64x10x32768 .f32 := res_main_v27 V
/-- The reference's ten smallest costs of each row, negated. -/
abbrev topCosts : FVec Ideal S64x10 .f32 := (Host.topK S64x10 1 (FloatOps.cmpfTotal (F := Ideal) (φ := .f32) .gt) (v4 V) sliceFits_S64x32768_S64x10).1
/-- The columns of the ten smallest costs of each row. -/
abbrev topWords : IVec S64x10 32 := (Host.topK S64x10 1 (FloatOps.cmpfTotal (F := Ideal) (φ := .f32) .gt) (v4 V) sliceFits_S64x32768_S64x10).2
/-- The numbers of the cheapest subsets, as the fetch of their bits takes them. -/
abbrev bestRows : IVec S64x10x1 32 := broadcastInDim S64x10x1 ![0, 1] bcast_S64x10_S64x10x1_0_1 (select (cmpi .slt (best V) (broadcastInDim S64x10 ![] bcast_S_S64x10 (constantI S_ 32 0#32))) (addi (best V) (broadcastInDim S64x10 ![] bcast_S_S64x10 (constantI S_ 32 1024#32))) (best V))

/-- The signs, read. -/
theorem v2_apply (r : Fin 64) (q : Fin 32768) : v2 V (ix2 r q) = Spec.pos (lrow V r q) := by
  show ((((BitVec.ofBool (decide (Ideal.ofBits .f32 0x00000000#32 < logits V (ix2 r q)))).toNat : ℝ)) : EReal) = _
  rw [Ideal.ofBits_zero_f32]
  unfold Spec.pos
  by_cases h : (0 : EReal) < lrow V r q
  · rw [if_pos h, decide_eq_true h]; show (((1 : ℕ) : ℝ) : EReal) = 1; norm_num
  · rw [if_neg h, decide_eq_false h]; show (((0 : ℕ) : ℝ) : EReal) = 0; norm_num

/-- The negated costs, read. -/
theorem v4_apply (r : Fin 64) (q : Fin 32768) : v4 V (ix2 r q) = -(Spec.cost (lrow V r) q) := rfl

/-- The table of bits, read. -/
theorem v15_apply (s : Fin 1024) (t : Fin 10) : v15 V (ix2 s t) = Spec.bit s.val t.val := by
  have hs := s.isLt
  have ht := t.isLt
  exact Spec.bit_float _ s.val t.val (by omega) (by omega)

variable (hX : ∀ r q, Spec.cost (lrow V r) q < ⊤)

include hX

/-- The ten smallest costs of a row and where they are. -/
theorem top1 (r : Fin 64) (i : Fin 10) :
    topCosts V (ix2 r i)
        = -(Spec.cost (lrow V r) (Picks.pick (Spec.cost (lrow V r)) i))
    ∧ topWords V (ix2 r i)
        = BitVec.ofNat 32 (Picks.pick (Spec.cost (lrow V r)) i).val :=
  RefTop.topK_apply (R := 64) (n := 32768) (K := 10) _ sliceFits_S64x32768_S64x10 (by omega) (fun r => Spec.cost (lrow V r)) (fun r q => v4_apply V r q) hX r i

/-- The negated costs of the subsets, read. -/
theorem v18_apply (r : Fin 64) (s : Fin 1024) : v18 V (ix2 r s) = -(Spec.subsets (lrow V r) s) := by
  have e : v18 V (ix2 r s) = -(Host.dotGeneral (F := Ideal) dot_S64x10_S10x1024_S64x1024_1_0_0_1_n_n none (Host.negf (topCosts V))
      (transpose S10x1024 [1, 0] (v15 V) transposes_S1024x10_S10x1024_1_0) (ix2 r s)) := rfl
  rw [e]
  pointwise
  unfold Spec.subsets Spec.subset
  rw [Finset.sum_range]
  refine congrArg (fun z : EReal => -z) (Finset.sum_congr rfl fun t _ => ?_)
  rw [(top1 V hX r t).1, v15_apply, neg_neg, mul_comm]

/-- The numbers of the ten cheapest subsets. -/
theorem best_word (r : Fin 64) (j : Fin 10) : best V (ix2 r j) = BitVec.ofNat 32 (Spec.bestOf (lrow V r) j).val :=
  (RefTop.topK_apply (R := 64) (n := 1024) (K := 10) _ sliceFits_S64x1024_S64x10 (by omega) (fun r => Spec.subsets (lrow V r))
    (fun r s => v18_apply V hX r s) (fun r => Spec.subsets_lt (hX r)) r j).2

omit hX in
/-- A row of the table, looked up. -/
theorem gather_row (x : FVec Ideal S1024x10 .f32) (idx : IVec S64x10x1 32) (r : Fin 64) (j t : Fin 10) (b : Fin 1024)
    (hb : idx (ix3 r j 0) = BitVec.ofNat 32 b.val) :
    Host.gather gather_S1024x10_S64x10x1_S64x10x10_2_0_n_n_0_2_110 x idx (ix3 r j t) = x (ix2 b t) := by
  refine congrArg x (funext fun a => Fin.ext ?_)
  match a with
  | ⟨0, _⟩ =>
    have hb' := b.isLt
    show min (idx (gather_S1024x10_S64x10x1_S64x10x10_2_0_n_n_0_2_110.siIdx (ix3 r j t) ⟨0, by decide⟩)).toInt.toNat 1023 + 0 + 0 = b.val
    have e : gather_S1024x10_S64x10x1_S64x10x10_2_0_n_n_0_2_110.siIdx (ix3 r j t) ⟨0, by decide⟩ = ix3 r j 0 := by
      funext a'
      match a' with
      | ⟨0, _⟩ => rfl
      | ⟨1, _⟩ => rfl
      | ⟨2, _⟩ => rfl
    rw [e, hb, BitVec.toInt_eq_toNat_of_lt (by rw [BitVec.toNat_ofNat]; omega), BitVec.toNat_ofNat]
    omega
  | ⟨1, _⟩ =>
    show 0 + 0 + t.val = t.val
    omega

/-- A lookup's row number, read. -/
theorem bestRows_apply (r : Fin 64) (j : Fin 10) : bestRows V (ix3 r j 0) = BitVec.ofNat 32 (Spec.bestOf (lrow V r) j).val := by
  have e : bestRows V (ix3 r j 0) = Scalar.select (IntOp.cmpi .slt (best V (ix2 r j)) 0#32) (IntOp.addi (best V (ix2 r j)) 1024#32) (best V (ix2 r j)) := by
    unfold bestRows; pointwise
  have hb := (Spec.bestOf (lrow V r) j).isLt
  rw [e, best_word V hX, WordCmp.cmpi_slt_eq, BitVec.toInt_eq_toNat_of_lt (by rw [BitVec.toNat_ofNat]; omega), BitVec.toNat_ofNat, decide_eq_false (by show ¬ (_ : ℤ) < 0; omega)]
  rfl

omit V hX in
/-- A comparison of two columns' words, as a number. -/
theorem oneHot_apply (p q : Fin 32768) : FloatOps.uitofp (F := Ideal) .f32 (IntOp.cmpi .eq (BitVec.ofNat 32 p.val) (BitVec.ofNat 32 q.val))
    = (if q = p then 1 else 0 : EReal) := by
  have hp := p.isLt
  have hq := q.isLt
  rw [WordCmp.cmpi_eq_eq]
  by_cases h : q = p
  · subst h
    rw [if_pos rfl, decide_eq_true rfl]
    show (((1 : ℕ) : ℝ) : EReal) = 1
    norm_num
  · rw [if_neg h, decide_eq_false fun e => h (Fin.ext (by
      have := congrArg BitVec.toNat e
      rw [BitVec.toNat_ofNat, BitVec.toNat_ofNat] at this
      omega))]
    show (((0 : ℕ) : ℝ) : EReal) = 0
    norm_num

open scoped Classical in
/-- The flips, read: one where the `j`-th cheapest subset flips the sign, zero elsewhere. -/
theorem v27_apply (r : Fin 64) (j : Fin 10) (q : Fin 32768) : v27 V (ix3 r j q)
    = (if Spec.Flip (lrow V r) j.val q then 1 else 0 : EReal) := by
  have e : v27 V = Host.dotGeneral (F := Ideal) dot_S64x10x10_S64x10x32768_S64x10x32768_2_1_1_2_0_0 none
    (Host.gather gather_S1024x10_S64x10x1_S64x10x10_2_0_n_n_0_2_110 (v15 V) (bestRows V)) (uitofp .f32 (cmpi .eq (broadcastInDim S64x10x32768 ![0, 1, 2] bcast_S64x10x1_S64x10x32768_0_1_2 (broadcastInDim S64x10x1 ![0, 1] bcast_S64x10_S64x10x1_0_1 (topWords V))) (broadcastInDim S64x10x32768 ![0, 1, 2] bcast_S1x1x32768_S64x10x32768_0_1_2 (iotaInDim S1x1x32768 32 2)))) := rfl
  rw [e]
  pointwise
  have hs : ∀ t : Fin 10, Host.gather gather_S1024x10_S64x10x1_S64x10x10_2_0_n_n_0_2_110 (v15 V) (bestRows V) (ix3 r j t) *
        FloatOps.uitofp (F := Ideal) FTy.f32 (IntOp.cmpi CmpIPredicate.eq (topWords V (ix2 r t)) (BitVec.ofNat 32 q.val))
      = Spec.bit (Spec.bestOf (lrow V r) j.val).val t.val * (if q = Picks.pick (Spec.cost (lrow V r)) t then 1 else 0 : EReal) := fun t => by
    rw [gather_row _ _ r j t _ (bestRows_apply V hX r j), v15_apply, (top1 V hX r t).2, oneHot_apply]
  refine (Finset.sum_congr rfl fun t _ => hs t).trans ?_
  by_cases hq : ∃ t : Fin 10, q = Picks.pick (Spec.cost (lrow V r)) t
  · obtain ⟨t, ht⟩ := hq
    have hu : ∀ u : Fin 10, q = Picks.pick (Spec.cost (lrow V r)) u → u = t := fun u hu => by
      have h1 := t.isLt
      have h2 := u.isLt
      by_contra hne
      rcases Nat.lt_or_gt_of_ne (fun e => hne (Fin.ext e)) with c | c
      · exact Picks.pick_ne _ (hX r) _ _ c (by omega) (hu.symm.trans ht)
      · exact Picks.pick_ne _ (hX r) _ _ c (by omega) (ht.symm.trans hu)
    rw [Finset.sum_eq_single t (fun u _ hne => by rw [if_neg fun e => hne (hu u e), mul_zero]) (fun h => absurd (Finset.mem_univ t) h), if_pos ht, mul_one]
    have hf : Spec.Flip (lrow V r) j.val q ↔ (Spec.bestOf (lrow V r) j.val).val.testBit t.val = true :=
      ⟨fun ⟨u, h1, h2⟩ => hu u h1 ▸ h2, fun h => ⟨t, ht, h⟩⟩
    unfold Spec.bit
    by_cases hb : (Spec.bestOf (lrow V r) j.val).val.testBit t.val = true
    · rw [if_pos hb, if_pos (hf.2 hb)]
    · rw [if_neg hb, if_neg fun h => hb (hf.1 h)]
  · rw [if_neg fun ⟨t, h, _⟩ => hq ⟨t, h⟩]
    exact Finset.sum_eq_zero fun t _ => by rw [if_neg fun h => hq ⟨t, h⟩, mul_zero]

/-- The reference's array of samples. -/
abbrev v38 : FVec Ideal S64x10x32768 .f32 :=
  addf (mulf (broadcastInDim S64x10x32768 ![0, 1, 2] bcast_S64x1x32768_S64x10x32768_0_1_2 (broadcastInDim S64x1x32768 ![0, 2] bcast_S64x32768_S64x1x32768_0_2 (v2 V))) (subf (broadcastInDim S64x10x32768 ![] bcast_S_S64x10x32768 (constant S_ .f32 0x3F800000#32)) (v27 V))) (mulf (broadcastInDim S64x10x32768 ![0, 1, 2] bcast_S64x1x32768_S64x10x32768_0_1_2 (subf (broadcastInDim S64x1x32768 ![] bcast_S_S64x1x32768 (constant S_ .f32 0x3F800000#32)) (broadcastInDim S64x1x32768 ![0, 2] bcast_S64x32768_S64x1x32768_0_2 (v2 V)))) (v27 V))

omit V hX in
/-- The mix of a sign and its flip, at a flip that is zero or one. -/
theorem mix (p f : EReal) (hf : f = 1 ∨ f = 0) : p * (1 - f) + (1 - p) * f = if f = 1 then 1 - p else p := by
  have h1 : (1 : EReal) - 1 = 0 := by
    rw [← EReal.coe_one, ← EReal.coe_sub, sub_self, EReal.coe_zero]
  rcases hf with rfl | rfl
  · rw [if_pos rfl, h1, mul_zero, mul_one, zero_add]
  · rw [if_neg (by norm_num), sub_zero, mul_zero, mul_one, add_zero]

/-- The reference's samples are the kernel's. -/
theorem v38_eq : v38 V = KernelValue.samples (logits V) := by
  classical
  funext y
  obtain ⟨r, j, q, rfl⟩ : ∃ (r : Fin 64) (j : Fin 10) (q : Fin 32768), y = ix3 r j q := ⟨y 0, y 1, y 2, by funext a; fin_cases a <;> rfl⟩
  have e : v38 V (ix3 r j q) = v2 V (ix2 r q) * (1 - v27 V (ix3 r j q)) + (1 - v2 V (ix2 r q)) * v27 V (ix3 r j q) := by
    unfold v38; pointwise
  rw [e, v2_apply, v27_apply V hX]
  show _ = Spec.sample (lrow V r) j.val q
  unfold Spec.sample
  by_cases h : Spec.Flip (lrow V r) j.val q
  · rw [if_pos h, if_pos h, mix _ _ (Or.inl rfl), if_pos rfl]
  · rw [if_neg h, if_neg h, mix _ _ (Or.inr rfl), if_neg (by norm_num)]

/-- The reference's scores are the kernel's. -/
theorem v39_eq : (res_main_v39 V : FVec Ideal S64x10 .f32) = KernelRun.scores (logits V) := by
  have e : (res_main_v39 V : FVec Ideal S64x10 .f32) = KernelRun.scoresOf (v38 V) (logits V) := rfl
  rw [e, v38_eq V hX]
  rfl

end RefSample
-- ==== Proof.DistrBody.lean ====
/- The second kernel body, for any float values: what it leaves in its two output blocks, in terms of the repeated steps. -/
module

public import proofs.«01_k».proof.Proof.Steps
public import proofs.«01_k».proof.Proof.Gen.KernelIdeal.Frame
public import Idealize.ShloMosaic.Lib.Pipeline.ValueKit.Tiles

@[expose] public section

set_option maxRecDepth 16384

noncomputable section

namespace Distr

open Idealize.ShloMosaic Cert.KernelIdeal Cert.KernelIdeal.Gen Steps

variable {F : FTy → Type} [FloatOps F]

/-- The side conditions of the block of scores. -/
theorem sd : Sides 64 10 :=
  ⟨reduces_S64x10_S64, shapeCasts_S64_S64x1, broadcasts_S64x1_S64x10, iota_S64x10_d1_w32, by decide⟩

variable (x w : FVec F S64x10 .f32)

/-- The scores before round `k` of taking each row's greatest. -/
abbrev W (k : ℕ) : FVec F S64x10 .f32 := workMax sd x k

/-- The score that round `k` takes from each row. -/
def Z (k : ℕ) : FVec F S64x1 .f32 := greatest sd (W x k)

/-- The words of the floats 1 to 10. -/
def word : ℕ → BitVec 32
  | 0 => 0x3F800000#32
  | 1 => 0x40000000#32
  | 2 => 0x40400000#32
  | 3 => 0x40800000#32
  | 4 => 0x40A00000#32
  | 5 => 0x40C00000#32
  | 6 => 0x40E00000#32
  | 7 => 0x41000000#32
  | 8 => 0x41100000#32
  | 9 => 0x41200000#32
  | _ => 0#32

/-- A column of one number. -/
abbrev col (b : BitVec 32) : FVec F S64x1 .f32 := broadcast S64x1 (Scalar.ofBits .f32 b)

/-- The sum of the first `k` scores taken. -/
def sums : ℕ → FVec F S64x1 .f32
  | 0 => col 0x00000000#32
  | k + 1 => addf (sums k) (Z x k)

/-- Whether round `k`'s score is in the support, as a number. -/
def inside (k : ℕ) : FVec F S64x1 .f32 :=
  sitofp .f32 (extui 32 (cmpf .ogt (addf (col 0x3F800000#32) (mulf (col (word k)) (Z x k))) (sums x (k + 1))) natLt_1_32)

/-- How many of the first `k` scores are in the support. -/
def size : ℕ → FVec F S64x1 .f32
  | 0 => col 0x00000000#32
  | k + 1 => addf (size k) (inside x k)

/-- The sum over the support, looked for among the first `k` sums. -/
def chosen : ℕ → FVec F S64x1 .f32
  | 0 => col 0x00000000#32
  | k + 1 => select (cmpf .oeq (size x 10) (col (word k))) (sums x (k + 1)) (chosen k)

/-- The threshold of each row. -/
def tau : FVec F S64x1 .f32 := divf (subf (chosen x 10) (col 0x3F800000#32)) (size x 10)

/-- The distribution of each row. -/
def probs : FVec F S64x10 .f32 :=
  maximumf (subf x (broadcastTo S64x10 (tau x) broadcasts_S64x1_S64x10)) (broadcast S64x10 (Scalar.ofBits .f32 0x00000000#32))

/-- Each entry `p` of the distribution as `p log p`, zero where `p` is not positive. -/
def entropies (p : FVec F S64x10 .f32) : FVec F S64x10 .f32 :=
  select (cmpf .ogt p (broadcast S64x10 (Scalar.ofBits .f32 0x00000000#32)))
    (mulf p (log (select (cmpf .ogt p (broadcast S64x10 (Scalar.ofBits .f32 0x00000000#32))) p (broadcast S64x10 (Scalar.ofBits .f32 0x3F800000#32)))))
    (broadcast S64x10 (Scalar.ofBits .f32 0x00000000#32))

/-- The sum of all entries, negated and divided by 64, in a block of one entry. -/
def meanOf (e : FVec F S64x10 .f32) : FVec F S1x1 .f32 :=
  broadcast S1x1 (Scalar.divf (Scalar.subf (Scalar.ofBits .f32 0x00000000#32)
    (extractAt ![0, 0, 0] (shapeCast S1x1x1 (multiReduction .add [1, 2] S1 (shapeCast S1x64x10 e shapeCasts_S64x10_S1x64x10)
      0x00000000#32 reduces_S1x64x10_S1 (.inl rfl) rfl) shapeCasts_S1_S1x1x1) inpos_S1x1x1_p0_0_0)) (Scalar.ofBits .f32 0x42800000#32))

/-- The block's column numbers. -/
abbrev cols : IVec S64x10 32 := iota .tc S64x10 32 [1] iota_S64x10_d1_w32
/-- The block's count of columns, at every entry. -/
abbrev tens : IVec S64x10 32 := broadcast S64x10 10#32
/-- Where each row holds its greatest score. -/
abbrev tops : IVec S64x10 1 := cmpf .oeq w (broadcastTo S64x10 (greatest sd w) broadcasts_S64x1_S64x10)

/-- The cast of the block to its own shape is the block. -/
theorem pay1_eq : k1_pay1 x = x := shapeCast_self _ _

/-- A load of the whole block reads the block. -/
theorem ld_eq (x : Vec F S64x10 .f32) : View.ld x r1_0 = x := View.ld_unit_zero (by funext a; fin_cases a <;> rfl) _ x

/-- The first round's score. -/
theorem pay2_eq : k1_pay2 x = Z x 0 := by
  unfold k1_pay2; rw [pay1_eq]; rfl
/-- The scores before the second round. -/
theorem pay3_eq : k1_pay3 x = W x 1 := by
  unfold k1_pay3; rw [pay1_eq, pay2_eq]; rfl
/-- The scores before the third round. -/
theorem pay5_eq : k1_pay5 x = W x 2 := by
  unfold k1_pay5 k1_pay4; rw [pay3_eq]; rfl
/-- The scores before the fourth round. -/
theorem pay7_eq : k1_pay7 x = W x 3 := by
  unfold k1_pay7 k1_pay6; rw [pay5_eq]; rfl

/-- The body's intermediate value number 12 is the score taken 1 round further on from the scores `w`. -/
theorem pay12_eq : k1_pay12 cols w (tops w) tens = Z w 1 := rfl
/-- The body's intermediate value number 14 is the score taken 2 rounds further on from the scores `w`. -/
theorem pay14_eq : k1_pay14 cols w (tops w) tens = Z w 2 := rfl
/-- The body's intermediate value number 16 is the score taken 3 rounds further on from the scores `w`. -/
theorem pay16_eq : k1_pay16 cols w (tops w) tens = Z w 3 := rfl
/-- The body's intermediate value number 17 is the scores `w` after 4 more rounds. -/
theorem pay17_eq : k1_pay17 cols w (tops w) tens = W w 4 := rfl
/-- The body's intermediate value number 18 is the score taken 4 rounds further on from the scores `w`. -/
theorem pay18_eq : k1_pay18 cols w (tops w) tens = Z w 4 := rfl
/-- The body's intermediate value number 20 is the score taken 1 round further on from the scores `w`. -/
theorem pay20_eq : k1_pay20 cols w (Z w 0) = Z w 1 := rfl
/-- The body's intermediate value number 21 is the score taken 2 rounds further on from the scores `w`. -/
theorem pay21_eq : k1_pay21 cols w (Z w 0) = Z w 2 := rfl

/-- The scores that later rounds take, counted from an earlier round. -/
theorem Z_add (a b : ℕ) : Z (W x a) b = Z x (a + b) := congrArg (greatest sd) (workMax_add sd x a b)

/-- The body's intermediate value number 44 is the block it loads. -/
theorem p44 : k1_pay44 x = x := by unfold k1_pay44; rw [ld_eq, pay1_eq]
/-- The body's intermediate value number 45 is the score that the first round takes from each row. -/
theorem p45 : k1_pay45 x = Z x 0 := by unfold k1_pay45; rw [ld_eq, pay2_eq]
/-- The body's intermediate value number 46 is the score that the second round takes from each row. -/
theorem p46 : k1_pay46 x = Z x 1 := by unfold k1_pay46 k1_pay4; rw [ld_eq, pay3_eq]; rfl
/-- The body's intermediate value number 47 is the score that the third round takes from each row. -/
theorem p47 : k1_pay47 x = Z x 2 := by unfold k1_pay47 k1_pay6; rw [ld_eq, pay5_eq]; rfl
/-- The body's intermediate value number 48 is the block of scores before the fourth round. -/
theorem p48 : k1_pay48 x = W x 3 := by unfold k1_pay48; rw [ld_eq, pay7_eq]
/-- The body's intermediate value number 49 is the score that the fourth round takes from each row. -/
theorem p49 : k1_pay49 x = Z x 3 := by unfold k1_pay49 k1_pay8; rw [ld_eq, pay7_eq]; rfl
/-- The body's intermediate value number 50 is where each row holds its greatest score before the fourth round. -/
theorem p50 : k1_pay50 x = tops (W x 3) := by unfold k1_pay50 k1_pay9 k1_pay8; rw [ld_eq, pay7_eq]; rfl
/-- The body's intermediate value number 52 is the score that the fifth round takes from each row. -/
theorem p52 : k1_pay52 x = Z x 4 := by unfold k1_pay52; rw [p48, p50]; exact (pay12_eq _).trans (Z_add x 3 1)
/-- The body's intermediate value number 53 is the score that the sixth round takes from each row. -/
theorem p53 : k1_pay53 x = Z x 5 := by unfold k1_pay53; rw [p48, p50]; exact (pay14_eq _).trans (Z_add x 3 2)
/-- The body's intermediate value number 54 is the score that the seventh round takes from each row. -/
theorem p54 : k1_pay54 x = Z x 6 := by unfold k1_pay54; rw [p48, p50]; exact (pay16_eq _).trans (Z_add x 3 3)
/-- The body's intermediate value number 55 is the block of scores before the eighth round. -/
theorem p55 : k1_pay55 x = W x 7 := by unfold k1_pay55; rw [p48, p50]; exact (pay17_eq _).trans (workMax_add sd x 3 4)
/-- The body's intermediate value number 56 is the score that the eighth round takes from each row. -/
theorem p56 : k1_pay56 x = Z x 7 := by unfold k1_pay56; rw [p48, p50]; exact (pay18_eq _).trans (Z_add x 3 4)
/-- The body's intermediate value number 57 is the score that the ninth round takes from each row. -/
theorem p57 : k1_pay57 x = Z x 8 := by unfold k1_pay57; rw [p55, p56]; exact (pay20_eq _).trans (Z_add x 7 1)
/-- The body's intermediate value number 58 is the score that the tenth round takes from each row. -/
theorem p58 : k1_pay58 x = Z x 9 := by unfold k1_pay58; rw [p55, p56]; exact (pay21_eq _).trans (Z_add x 7 2)
/-- The body's intermediate value number 59 is the sum of the first 3 scores taken. -/
theorem p59 : k1_pay59 x = sums x 3 := by unfold k1_pay59; rw [p45, p46, p47]; rfl
/-- The body's intermediate value number 60 is how many of the first 7 scores are in the support. -/
theorem p60 : k1_pay60 x = size x 7 := by unfold k1_pay60; rw [p45, p46, p47, p49, p52, p53, p54, p59]; rfl
/-- The body's intermediate value number 61 is the sum of the first 8 scores taken. -/
theorem p61 : k1_pay61 x = sums x 8 := by unfold k1_pay61; rw [p49, p52, p53, p54, p56, p59]; rfl
/-- The body's intermediate value number 63 is how many of the first 10 scores are in the support. -/
theorem p63 : k1_pay63 x = size x 10 := by unfold k1_pay63 k1_pay62; rw [p56, p57, p58, p60, p61]; rfl
/-- The body's intermediate value number 64 is the sum of the first 6 scores taken. -/
theorem p64 : k1_pay64 x = sums x 6 := by unfold k1_pay64; rw [p45, p46, p47, p49, p52, p53]; rfl
/-- The body's intermediate value number 65 is the sum over the support, looked for among the first 6 sums. -/
theorem p65 : k1_pay65 x = chosen x 6 := by
  have e : k1_pay65 x = k1_pay40 (k1_pay45 x) (k1_pay46 x) (k1_pay47 x) (k1_pay49 x) (k1_pay52 x) (k1_pay53 x) (k1_pay57 x) (k1_pay58 x) (k1_pay60 x) (k1_pay61 x) (k1_pay62 x) := rfl
  have e' : k1_pay33 (k1_pay57 x) (k1_pay58 x) (k1_pay60 x) (k1_pay61 x) (k1_pay62 x) = size x 10 := p63 x
  rw [e]
  unfold k1_pay40
  rw [e', p45, p46, p47, p49, p52, p53]
  rfl

/-- What the body computes for the distribution. -/
theorem pay41_eq : k1_pay41 (k1_pay44 x) (k1_pay54 x) (k1_pay56 x) (k1_pay57 x) (k1_pay58 x) (k1_pay63 x) (k1_pay64 x) (k1_pay65 x) = probs x := by
  rw [p44, p54, p56, p57, p58, p63, p64, p65]; rfl

/-- What the body leaves in its block of probabilities. -/
theorem out_probs : out1_1 x = probs x := by
  unfold out1_1
  rw [pay41_eq]
  exact View.canon_unit_zero (by funext a; fin_cases a <;> rfl) _ _

/-- What the body leaves in its block of one loss. -/
theorem out_loss : out1_2 x = meanOf (entropies (probs x)) := by
  have e : k1_pay42 (k1_pay44 x) (k1_pay54 x) (k1_pay56 x) (k1_pay57 x) (k1_pay58 x) (k1_pay63 x) (k1_pay64 x) (k1_pay65 x) = meanOf (entropies (probs x)) := by
    unfold k1_pay42
    rw [pay41_eq]
    rfl
  unfold out1_2
  rw [e]
  exact View.canon_unit_zero (by funext a; fin_cases a <;> rfl) _ _

end Distr
-- ==== Proof.DistrSpec.lean ====
/- The distribution of one row of ten scores, as plain mathematics, and that the second kernel body computes it. -/
module

public import proofs.«01_k».proof.Proof.DistrBody
public import proofs.«01_k».proof.Proof.Picks
public import Idealize.ShloMosaic.Lib.IdealHost
public import Idealize.ShloMosaic.Lib.Pointwise
public import Mathlib.Data.Nat.Count

@[expose] public section

set_option maxRecDepth 16384

noncomputable section

namespace Sparse

open Idealize.ShloMosaic

/-- The `k`-th greatest score of a row. -/
def top (w : Fin 10 → EReal) (k : ℕ) : EReal := w (Picks.pick (fun q => -(w q)) k)

/-- The sum of the `k` greatest scores of a row. -/
def total (w : Fin 10 → EReal) (k : ℕ) : EReal := ∑ i ∈ Finset.range k, top w i

/-- Score `k`, counted from the greatest, is in the support of the row's distribution. -/
def Inside (w : Fin 10 → EReal) (k : ℕ) : Prop := total w (k + 1) < 1 + ((k + 1 : ℕ) : ℝ) * top w k

/-- Whether a score is in the support is decided classically. -/
instance (w : Fin 10 → EReal) : DecidablePred (Inside w) := Classical.decPred _

/-- The size of the support of a row's distribution. -/
def support (w : Fin 10 → EReal) : ℕ := Nat.count (Inside w) 10

/-- The threshold of a row. -/
def tau (w : Fin 10 → EReal) : EReal := Ideal.div (total w (support w) - 1) ((support w : ℝ) : EReal)

/-- The distribution of a row: the scores above the threshold. -/
def prob (w : Fin 10 → EReal) (q : Fin 10) : EReal := max (w q - tau w) 0

/-- The greatest score is in the support. -/
theorem inside_zero (w : Fin 10 → EReal) (hw : ∀ q, ∃ c : ℝ, w q = c) : Inside w 0 := by
  obtain ⟨c, hc⟩ := hw (Picks.pick (fun q => -(w q)) 0)
  have h0 : top w 0 = c := hc
  have h1 : total w 1 = c := by
    unfold total
    rw [Finset.sum_range_one, h0]
  unfold Inside
  rw [h0, h1, ← EReal.coe_one, ← EReal.coe_mul, ← EReal.coe_add, EReal.coe_lt_coe_iff]
  norm_num

/-- The support is not empty. -/
theorem one_le_support (w : Fin 10 → EReal) (hw : ∀ q, ∃ c : ℝ, w q = c) : 1 ≤ support w := by
  unfold support
  have : Nat.count (Inside w) 1 ≤ Nat.count (Inside w) 10 := Nat.count_monotone _ (by omega)
  refine le_trans ?_ this
  rw [Nat.count_succ, if_pos (inside_zero w hw)]
  omega

/-- The support has at most ten scores. -/
theorem support_le (w : Fin 10 → EReal) : support w ≤ 10 := Nat.count_le _

end Sparse

namespace Distr

open Idealize.ShloMosaic Cert.KernelIdeal Cert.KernelIdeal.Gen Steps

/-- The words of the floats 1 to 10 hold them. -/
theorem ofBits_word (k : ℕ) (hk : k < 10) : Ideal.ofBits .f32 (word k) = (((k + 1 : ℕ) : ℝ) : EReal) := by
  interval_cases k <;> (simp [word, Ideal.ofBits, Ideal.ieee, -EReal.coe_mul]; try norm_num)

variable (x : FVec Ideal S64x10 .f32) (r : Fin 64) (hw : ∀ q, ∃ c : ℝ, row x r q = c)

include hw

/-- The score that round `k` takes. -/
theorem Z_apply (k : ℕ) (hk : k < 10) : Z x k (ix2 r 0) = Sparse.top (row x r) k :=
  greatest_workMax sd x r k hk fun q => by
    obtain ⟨c, hc⟩ := hw q
    show -(row x r q) < ⊤
    rw [hc, ← EReal.coe_neg]
    exact EReal.coe_lt_top _

/-- The sums of the scores taken. -/
theorem sums_apply (k : ℕ) (hk : k ≤ 10) : sums x k (ix2 r 0) = Sparse.total (row x r) k := by
  induction k with
  | zero => exact Ideal.ofBits_zero_f32
  | succ k ih =>
    show sums x k (ix2 r 0) + Z x k (ix2 r 0) = _
    rw [ih (by omega), Z_apply x r hw k (by omega)]
    unfold Sparse.total
    rw [Finset.sum_range_succ]

/-- The tests of the scores taken. -/
theorem inside_apply (k : ℕ) (hk : k < 10) : inside x k (ix2 r 0) = if Sparse.Inside (row x r) k then 1 else 0 := by
  show ((((BitVec.ofBool (decide (sums x (k + 1) (ix2 r 0) < Ideal.ofBits .f32 0x3F800000#32 + Ideal.ofBits .f32 (word k) * Z x k (ix2 r 0)))).setWidth 32).toInt : ℝ) : EReal) = _
  rw [sums_apply x r hw (k + 1) (by omega), Z_apply x r hw k hk, ofBits_word k hk, Ideal.ofBits_one_f32]
  by_cases h : Sparse.Inside (row x r) k
  · rw [if_pos h, decide_eq_true (by exact h), show ((BitVec.ofBool true).setWidth 32).toInt = 1 from by decide]; norm_num
  · rw [if_neg h, decide_eq_false (by exact h), show ((BitVec.ofBool false).setWidth 32).toInt = 0 from by decide]; norm_num

/-- The counts of the tests passed. -/
theorem size_apply (k : ℕ) (hk : k ≤ 10) : size x k (ix2 r 0) = ((Nat.count (Sparse.Inside (row x r)) k : ℝ) : EReal) := by
  induction k with
  | zero => rw [Nat.count_zero]; exact Ideal.ofBits_zero_f32.trans (by norm_num)
  | succ k ih =>
    show size x k (ix2 r 0) + inside x k (ix2 r 0) = _
    rw [ih (by omega), inside_apply x r hw k (by omega), Nat.count_succ]
    split_ifs
    · rw [Nat.cast_add, EReal.coe_add]; norm_num
    · rw [add_zero, add_zero]

/-- The sum over the support, when it is among the first `k`. -/
theorem chosen_apply (k : ℕ) (hk : k ≤ 10) (h : Sparse.support (row x r) ≤ k) : chosen x k (ix2 r 0) = Sparse.total (row x r) (Sparse.support (row x r)) := by
  induction k with
  | zero => exact absurd (Sparse.one_le_support _ hw) (by omega)
  | succ k ih =>
    show Scalar.select (BitVec.ofBool (decide (size x 10 (ix2 r 0) = Ideal.ofBits .f32 (word k)))) (sums x (k + 1) (ix2 r 0)) (chosen x k (ix2 r 0)) = _
    rw [size_apply x r hw 10 le_rfl, ofBits_word k (by omega), sums_apply x r hw (k + 1) hk]
    have hi : (((Nat.count (Sparse.Inside (row x r)) 10 : ℝ) : EReal) = (((k + 1 : ℕ) : ℝ) : EReal)) ↔ Sparse.support (row x r) = k + 1 := by
      rw [EReal.coe_eq_coe_iff, Nat.cast_inj]
      rfl
    by_cases e : Sparse.support (row x r) = k + 1
    · rw [decide_eq_true (hi.2 e), e]; rfl
    · rw [decide_eq_false fun h => e (hi.1 h), ← ih (by omega) (by omega)]; rfl

/-- The thresholds. -/
theorem tau_apply : tau x (ix2 r 0) = Sparse.tau (row x r) := by
  show Ideal.div (chosen x 10 (ix2 r 0) - Ideal.ofBits .f32 0x3F800000#32) (size x 10 (ix2 r 0)) = _
  rw [chosen_apply x r hw 10 le_rfl (Sparse.support_le _), size_apply x r hw 10 le_rfl, Ideal.ofBits_one_f32]
  rfl

/-- The distribution that the body stores. -/
theorem probs_apply (q : Fin 10) : probs x (ix2 r q) = Sparse.prob (row x r) q := by
  show max (x (ix2 r q) - broadcastTo S64x10 (tau x) broadcasts_S64x1_S64x10 (ix2 r q)) (Ideal.ofBits .f32 0x00000000#32) = _
  rw [show broadcastTo S64x10 (tau x) broadcasts_S64x1_S64x10 (ix2 r q) = _ from spread_apply (R := 64) (n := 10) (tau x) _ r q, tau_apply x r hw, Ideal.ofBits_zero_f32]
  rfl

end Distr
-- ==== Proof.RefDistr.lean ====
/- The idealized reference's sorted scores, running sums and supports, in terms of the distribution of one row. -/
module

public import proofs.«01_k».proof.Proof.RefSample
public import proofs.«01_k».proof.Proof.DistrSpec
public import Idealize.ShloMosaic.Lib.Routing.Ops

@[expose] public section

set_option maxRecDepth 16384

noncomputable section

namespace Picks

variable {n : ℕ} [NeZero n] (f : Fin n → EReal) (hf : ∀ q, f q < ⊤)

include hf in
/-- All the picks of a row, as a permutation of its places. -/
theorem pick_bijective : Function.Bijective fun i : Fin n => pick f i.val := by
  refine Finite.injective_iff_bijective.1 fun i j h => ?_
  have hi := i.isLt
  have hj := j.isLt
  by_contra hne
  rcases Nat.lt_or_gt_of_ne (fun e => hne (Fin.ext e)) with c | c
  · exact pick_ne f hf _ _ c (by omega) h
  · exact pick_ne f hf _ _ c (by omega) h.symm

include hf in
/-- Earlier picks are not greater. -/
theorem pick_mono (i j : ℕ) (hij : i ≤ j) (hj : j < n) : f (pick f i) ≤ f (pick f j) := by
  exact not_lt.1 fun h => pick_le f hf i (by omega) _ (fun k hk => pick_ne f hf k j (by omega) (by omega)) (Or.inl h)

/-- Of two orders of a row that both rise, one is entry by entry at most the other. -/
theorem rising_le (σ τ : Fin n → Fin n) (hσ : Function.Bijective σ) (hτ : Function.Bijective τ)
    (mσ : ∀ a b : Fin n, a ≤ b → f (σ a) ≤ f (σ b)) (mτ : ∀ a b : Fin n, a ≤ b → f (τ a) ≤ f (τ b)) (i : Fin n) : f (σ i) ≤ f (τ i) := by
  by_contra h
  have hlt := not_le.1 h
  have hsub : (Finset.univ.filter fun j : Fin n => j ≤ i).image τ ⊆ (Finset.univ.filter fun j : Fin n => j < i).image σ := fun q hq => by
    obtain ⟨j, hj, rfl⟩ := Finset.mem_image.1 hq
    obtain ⟨k, hk⟩ := hσ.2 (τ j)
    refine Finset.mem_image.2 ⟨k, Finset.mem_filter.2 ⟨Finset.mem_univ _, ?_⟩, hk⟩
    by_contra hki
    have h1 := mσ i k (not_lt.1 hki)
    rw [hk] at h1
    exact absurd (h1.trans (mτ j i (Finset.mem_filter.1 hj).2)) (not_le.2 hlt)
  have hc := Finset.card_le_card hsub
  rw [Finset.card_image_of_injective _ hτ.1, Finset.card_image_of_injective _ hσ.1] at hc
  refine absurd hc (not_le.2 (Finset.card_lt_card ⟨fun j hj => ?_, fun hs => ?_⟩))
  · exact Finset.mem_filter.2 ⟨Finset.mem_univ _, (Finset.mem_filter.1 hj).2.le⟩
  · exact lt_irrefl i (Finset.mem_filter.1 (hs (Finset.mem_filter.2 ⟨Finset.mem_univ _, le_rfl⟩))).2

/-- Two orders of a row that both rise read the same. -/
theorem rising_eq (σ τ : Fin n → Fin n) (hσ : Function.Bijective σ) (hτ : Function.Bijective τ)
    (mσ : ∀ a b : Fin n, a ≤ b → f (σ a) ≤ f (σ b)) (mτ : ∀ a b : Fin n, a ≤ b → f (τ a) ≤ f (τ b)) (i : Fin n) : f (σ i) = f (τ i) :=
  le_antisymm (rising_le f σ τ hσ hτ mσ mτ i) (rising_le f τ σ hτ hσ mτ mσ i)

end Picks

namespace RefDistr

open Idealize.ShloMosaic Idealize.ShloMosaic.StableHlo Cert.ReferenceIdeal Cert.ReferenceIdeal.Gen Cert.ReferenceIdeal.Value Steps

/-- The sorting order of the reference is the order of the numbers. -/
theorem comparator_eq (a b : EReal) : (comparator_f32_d1 (F := Ideal) a b == 1#1) = decide (a < b) := by
  have z : ∀ c : EReal, Scalar.select (Ideal.cmp .une c c) (Ideal.ofBits .f32 0x7FC00000#32)
      (Scalar.select (Ideal.cmp .oeq c (Ideal.ofBits .f32 0x00000000#32)) (Ideal.ofBits .f32 0x00000000#32) c) = c := fun c => by
    show Scalar.select (BitVec.ofBool (decide (c ≠ c))) _ (Scalar.select (BitVec.ofBool (decide (c = Ideal.ofBits .f32 0x00000000#32))) _ c) = c
    rw [decide_eq_false (fun h => h rfl)]
    by_cases h : c = Ideal.ofBits .f32 0x00000000#32
    · rw [decide_eq_true h]; exact h.symm
    · rw [decide_eq_false h]; rfl
  have e : comparator_f32_d1 (F := Ideal) a b = Ideal.cmpTotal .lt
    (Scalar.select (Ideal.cmp .une a a) (Ideal.ofBits .f32 0x7FC00000#32)
      (Scalar.select (Ideal.cmp .oeq a (Ideal.ofBits .f32 0x00000000#32)) (Ideal.ofBits .f32 0x00000000#32) a))
    (Scalar.select (Ideal.cmp .une b b) (Ideal.ofBits .f32 0x7FC00000#32)
      (Scalar.select (Ideal.cmp .oeq b (Ideal.ofBits .f32 0x00000000#32)) (Ideal.ofBits .f32 0x00000000#32) b)) := rfl
  rw [e, z, z]
  show (BitVec.ofBool (decide (a < b)) == 1#1) = _
  cases decide (a < b) <;> rfl

/-- The rows of a rectangle reversed, read. -/
theorem reverse_row {R n : ℕ} {α : Type} (v : (Rect2 R n).Idx → α) (r : Fin R) (i : Fin n) : Host.reverse [1] v (ix2 r i) = v (ix2 r i.rev) := by
  unfold Host.reverse
  refine congrArg v (funext fun a => ?_)
  match a with
  | ⟨0, _⟩ => rfl
  | ⟨1, _⟩ => rfl

/-- A row sorted and reversed, by the rounds' picks of its least entries. -/
theorem reverse_sort_apply {R n : ℕ} [NeZero n] (x : FVec Ideal (Rect2 R n) .f32) (cmp : EReal → EReal → BitVec 1)
    (hc : ∀ a b, (cmp a b == 1#1) = decide (a < b)) (r : Fin R) (hlt : ∀ q, row x r q < ⊤) (i : Fin n) :
    Host.reverse [1] (Host.sort (Rect2 R n) 1 cmp x) (ix2 r i) = row x r (Picks.pick (row x r) i.rev) := by
  rw [reverse_row]
  have hs : sortedFrom (fun k k' : Fin n => cmp (x ((ix2 r i.rev : (Rect2 R n).Idx).along 1 k))
      (x ((ix2 r i.rev : (Rect2 R n).Idx).along 1 k')) == 1#1) i.rev = Picks.pick (row x r) i.rev := by
    refine Eq.trans ?_ (Picks.sortedFrom_eq_pick (row x r) hlt le_rfl i.rev)
    congr 1
    funext k k'
    rw [RefTop.along_row, RefTop.along_row]
    exact hc _ _
  unfold Host.sort
  dsimp only
  exact (congrArg x (RefTop.along_row r _ _)).trans (congrArg (row x r) hs)

/-- A row sorted and reversed: its greatest scores, in order. -/
theorem sorted_apply (x : FVec Ideal S64x10 .f32) (r : Fin 64) (hw : ∀ q, ∃ c : ℝ, row x r q = c) (i : Fin 10) :
    Host.reverse [1] (Host.sort S64x10 1 (comparator_f32_d1 (F := Ideal)) x) (ix2 r i) = Sparse.top (row x r) i.val := by
  have hlt : ∀ q, row x r q < ⊤ := fun q => by
    obtain ⟨c, hc⟩ := hw q
    rw [hc]; exact EReal.coe_lt_top _
  have hneg : ∀ q, -(row x r q) < ⊤ := fun q => by
    obtain ⟨c, hc⟩ := hw q
    rw [hc, ← EReal.coe_neg]; exact EReal.coe_lt_top _
  have e1 : Host.reverse [1] (Host.sort S64x10 1 (comparator_f32_d1 (F := Ideal)) x) (ix2 r i) = row x r (Picks.pick (row x r) i.rev) :=
    reverse_sort_apply (R := 64) (n := 10) x _ comparator_eq r hlt i
  rw [e1]
  refine (Picks.rising_eq (row x r) (fun a => Picks.pick (row x r) a.val) (fun a => Picks.pick (fun q => -(row x r q)) a.rev.val)
    (Picks.pick_bijective (row x r) hlt)
    ((Picks.pick_bijective (fun q => -(row x r q)) hneg).comp Fin.rev_bijective)
    (fun a b hab => Picks.pick_mono (row x r) hlt a.val b.val hab b.isLt)
    (fun a b hab => EReal.neg_le_neg_iff.1 (Picks.pick_mono (fun q => -(row x r q)) hneg b.rev.val a.rev.val (Fin.rev_le_rev.2 hab) a.rev.isLt)) i.rev).trans ?_
  rw [Fin.rev_rev]
  rfl

/-- A fold of sums is a sum. -/
theorem foldl_sum {ι : Type} (l : List ι) (g : ι → EReal) (v : EReal) : l.foldl (fun a n => a + g n) v = v + (l.map g).sum := by
  induction l generalizing v with
  | nil => rw [List.foldl_nil, List.map_nil, List.sum_nil, add_zero]
  | cons a l ih => rw [List.foldl_cons, ih, List.map_cons, List.sum_cons, add_assoc]

/-- The running sums of a row. -/
theorem running_apply (x : FVec Ideal S64x10 .f32) (init : FVec Ideal S_ .f32) (hi : ∀ j, init j = (0 : EReal)) (f : ℕ → EReal) (r : Fin 64)
    (hf : ∀ i : Fin 10, x (ix2 r i) = f i.val) (j : Fin 10) :
    Host.reduceWindowAdd (F := Ideal) ![1, 10] ![1, 1] ![0, 9] ![0, 0] x init reduceWindows_S64x10_S64x10_w1s1p0_0_w10s1p9_0 h_S_ (ix2 r j)
      = ∑ i ∈ Finset.range (j.val + 1), f i := by
  show Ideal.hostReduceWindowAdd ![1, 10] ![1, 1] ![0, 9] ![0, 0] reduceWindows_S64x10_S64x10_w1s1p0_0_w10s1p9_0 x (init (Shape.Idx.first h_S_)) (ix2 r j) = _
  rw [hi]
  unfold Ideal.hostReduceWindowAdd Host.reduceWindow
  refine (foldl_sum _ _ _).trans ?_
  rw [zero_add]
  have hj := j.isLt
  refine Eq.trans (b := ((List.finRange (Shape.numel ⟨2, ![1, 10]⟩)).map fun n => if 9 ≤ j.val + n.val then f (j.val + n.val - 9) else 0).sum) ?_ ?_
  · refine congrArg List.sum (List.map_congr_left fun n _ => ?_)
    have hw0 : ((Routing.shape2 1 10).rowMajor.symm n 0).val = 0 := by rw [Routing.symm2]; rfl
    have hw : ((Routing.shape2 1 10).rowMajor.symm n 1).val = n.val := by rw [Routing.symm2]; rfl
    have hn : n.val < 10 := (n.cast (Routing.numel2 _)).isLt
    have hr := r.isLt
    split
    · next hin =>
      have h1 := hin 1
      change 9 ≤ j.val * 1 + ((Routing.shape2 1 10).rowMajor.symm n 1).val
        ∧ j.val * 1 + ((Routing.shape2 1 10).rowMajor.symm n 1).val - 9 < 10 at h1
      rw [hw] at h1
      rw [if_pos (by omega)]
      refine (congrArg x (funext fun a => Fin.ext ?_)).trans (hf ⟨j.val + n.val - 9, by omega⟩)
      match a with
      | ⟨0, _⟩ =>
        show r.val * 1 + ((Routing.shape2 1 10).rowMajor.symm n 0).val - 0 = r.val
        rw [hw0]
        omega
      | ⟨1, _⟩ =>
        show j.val * 1 + ((Routing.shape2 1 10).rowMajor.symm n 1).val - 9 = j.val + n.val - 9
        rw [hw, Nat.mul_one]
    · next hin =>
      rw [if_neg fun hle => hin fun a => by
        match a with
        | ⟨0, _⟩ =>
          show 0 ≤ r.val * 1 + ((Routing.shape2 1 10).rowMajor.symm n 0).val ∧ r.val * 1 + ((Routing.shape2 1 10).rowMajor.symm n 0).val - 0 < 64
          rw [hw0]
          omega
        | ⟨1, _⟩ =>
          show 9 ≤ j.val * 1 + ((Routing.shape2 1 10).rowMajor.symm n 1).val
            ∧ j.val * 1 + ((Routing.shape2 1 10).rowMajor.symm n 1).val - 9 < 10
          rw [hw]
          omega]
  · rw [Routing.map_finRange_val _ fun w => if 9 ≤ j.val + w then f (j.val + w - 9) else 0,
      show Shape.numel ⟨2, ![1, 10]⟩ = 10 from Routing.numel2 10]
    refine Eq.trans (b := ∑ w ∈ Finset.range 10, if 9 ≤ j.val + w then f (j.val + w - 9) else 0) rfl ?_
    generalize j.val = k at hj
    interval_cases k <;> simp [Finset.sum_range_succ]

/-- A lookup in each row, read. -/
theorem gather_each (x : FVec Ideal S64x10 .f32) (idx : IVec S64x1x1 32) (r : Fin 64) (b : Fin 10)
    (hb : idx (ix3 r 0 0) = BitVec.ofNat 32 b.val) :
    Host.gather gather_S64x10_S64x1x1_S64x1_n_1_0_0_1_2_11 x idx (ix2 r 0) = x (ix2 r b) := by
  refine congrArg x (funext fun a => Fin.ext ?_)
  match a with
  | ⟨0, _⟩ =>
    show 0 + r.val + 0 = r.val
    omega
  | ⟨1, _⟩ =>
    have hb' := b.isLt
    show min (idx (gather_S64x10_S64x1x1_S64x1_n_1_0_0_1_2_11.siIdx (ix2 r 0) ⟨0, by decide⟩)).toInt.toNat 9 + 0 + 0 = b.val
    have e : gather_S64x10_S64x1x1_S64x1_n_1_0_0_1_2_11.siIdx (ix2 r 0) ⟨0, by decide⟩ = ix3 r 0 0 := by
      funext a'
      match a' with
      | ⟨0, _⟩ => rfl
      | ⟨1, _⟩ => rfl
      | ⟨2, _⟩ => rfl
    rw [e, hb, BitVec.toInt_eq_toNat_of_lt (by rw [BitVec.toNat_ofNat]; omega), BitVec.toNat_ofNat]
    omega

/-- A conjunction of ones is one. -/
theorem reduce_and {s t u : Shape} {axes : List (Fin s.rank)} (x : IVec s 1) (hx : ∀ j, x j = 1#1) (init : IVec u 1) (hi : ∀ j, init j = 1#1)
    (h : s.ReducesTo axes t) (hu : 0 < u.numel) (j : t.Idx) : Host.reduce IntOp.andi x init h hu j = 1#1 := by
  unfold Host.reduce
  rw [hi]
  generalize (List.filter _ _) = l
  induction l with
  | nil => rfl
  | cons a l ih =>
    rw [List.foldl_cons, hx, show IntOp.andi 1#1 1#1 = 1#1 from rfl]
    exact ih

/-- The test of the sorted scores `a` against their running sums `b`, read. -/
theorem test_apply (a b : FVec Ideal S64x10 .f32) (r : Fin 64) (q : Fin 10) :
    cmpf (F := Ideal) .ogt (addf (broadcastInDim S64x10 ![] bcast_S_S64x10 (constant S_ .f32 0x3F800000#32)) (mulf (broadcastInDim S64x10 ![0, 1] bcast_S1x10_S64x10_0_1 (broadcastInDim S1x10 ![1] bcast_S10_S1x10_1 (addf (broadcastInDim S10 ![] bcast_S_S10 (constant S_ .f32 0x3F800000#32)) (sitofp .f32 (iotaInDim S10 32 0))))) a)) b (ix2 r q)
      = BitVec.ofBool (decide (b (ix2 r q) < Ideal.ofBits .f32 0x3F800000#32 + (Ideal.ofBits .f32 0x3F800000#32 + (((BitVec.ofNat 32 q.val).toInt : ℝ) : EReal)) * a (ix2 r q))) := rfl

variable (V : Valuation τ sig (Elt Ideal))

/-- The reference's scores. -/
abbrev scores : FVec Ideal S64x10 .f32 := res_main_v39 V
/-- The reference's scores, each row sorted downwards. -/
abbrev v41 : FVec Ideal S64x10 .f32 := res_main_v41 V
/-- The reference's running sums of the sorted scores. -/
abbrev v42 : FVec Ideal S64x10 .f32 := res_main_v42 V
/-- The reference's sizes of the supports. -/
abbrev v53 : IVec S64 32 := res_main_v53 V
/-- The reference's places of the last support entries, in a column. -/
abbrev v56 : IVec S64x1 32 := res_main_v56 V
/-- The reference's places of the last support entries, as the fetch takes them. -/
abbrev place : IVec S64x1x1 32 := res_main_call3_v5 V

variable (r : Fin 64) (hw : ∀ q, ∃ c : ℝ, row (scores V) r q = c)

include hw

/-- The sorted scores. -/
theorem v41_apply (i : Fin 10) : v41 V (ix2 r i) = Sparse.top (row (scores V) r) i.val := sorted_apply (scores V) r hw i

/-- Their running sums. -/
theorem v42_apply (i : Fin 10) : v42 V (ix2 r i) = Sparse.total (row (scores V) r) (i.val + 1) :=
  running_apply (v41 V) _ (fun _ => Ideal.ofBits_zero_f32) _ r (v41_apply V r hw) i

/-- The sizes of the supports. -/
theorem v53_apply : v53 V (ix1 r) = BitVec.ofNat 32 (Sparse.support (row (scores V) r)) := by
  refine Routing.reduce_count (n := 64) (m := 10) (by omega) _ _ _ _ r (Sparse.Inside (row (scores V) r)) fun q => ?_
  have e := test_apply (v41 V) (v42 V) r q
  refine (iff_of_eq (congrArg (· = 1#1) e)).trans ?_
  have hq := q.isLt
  have hn : (1 : EReal) + (((BitVec.ofNat 32 q.val).toInt : ℝ) : EReal) = (((q.val + 1 : ℕ) : ℝ) : EReal) := by
    have hr : (1 : ℝ) + ((q.val : ℤ) : ℝ) = ((q.val + 1 : ℕ) : ℝ) := by push_cast; ring
    rw [toInt_col _ (by omega), ← EReal.coe_one, ← EReal.coe_add, hr]
  rw [v42_apply V r hw, v41_apply V r hw, Ideal.ofBits_one_f32, hn]
  by_cases h : Sparse.Inside (row (scores V) r) q.val
  · rw [decide_eq_true (by exact h)]; exact ⟨fun _ => h, fun _ => rfl⟩
  · rw [decide_eq_false (by exact h)]; exact ⟨fun h' => absurd h' (by decide), fun h' => absurd h' h⟩

/-- Where each row's sum over its support is. -/
theorem place_apply : place V (ix3 r 0 0) = BitVec.ofNat 32 (Sparse.support (row (scores V) r) - 1) := by
  have e56 : v56 V (ix2 r 0) = IntOp.subi (v53 V (ix1 r)) 1#32 := by
    show (broadcastInDim S64x1 ![0] bcast_S64_S64x1_0 (subi (v53 V) (broadcastInDim S64 ![] bcast_S_S64 (constantI S_ 32 1#32)))) (ix2 r 0) = _
    pointwise
  have e : place V (ix3 r 0 0) = Scalar.select (IntOp.cmpi .slt (v56 V (ix2 r 0)) 0#32) (IntOp.addi (v56 V (ix2 r 0)) 10#32) (v56 V (ix2 r 0)) := by
    show (shapeCast S64x1x1 (select (cmpi .slt (v56 V) (broadcastInDim S64x1 ![] bcast_S_S64x1 (constantI S_ 32 0#32))) (addi (v56 V) (broadcastInDim S64x1 ![] bcast_S_S64x1 (constantI S_ 32 10#32))) (v56 V)) shapeCasts_S64x1_S64x1x1) (ix3 r 0 0) = _
    pointwise
  have h1 := Sparse.one_le_support _ hw
  have h2 := Sparse.support_le (row (scores V) r)
  have h56 : v56 V (ix2 r 0) = BitVec.ofNat 32 (Sparse.support (row (scores V) r) - 1) := by
    rw [e56, v53_apply V r hw]
    apply BitVec.eq_of_toNat_eq
    show (BitVec.ofNat 32 _ - 1#32).toNat = _
    rw [BitVec.toNat_sub, BitVec.toNat_ofNat, BitVec.toNat_ofNat, BitVec.toNat_ofNat]
    show (2 ^ 32 - 1 + _) % 2 ^ 32 = _
    omega
  rw [e, h56, WordCmp.cmpi_slt_eq, BitVec.toInt_eq_toNat_of_lt (by rw [BitVec.toNat_ofNat]; omega), BitVec.toNat_ofNat, decide_eq_false (by show ¬ (_ : ℤ) < 0; omega)]
  rfl

end RefDistr
-- ==== Proof.Results.lean ====
/- The idealized reference's distribution and loss are the idealized kernel's; scores of real logits are real. -/
module

public import proofs.«01_k».proof.Proof.RefDistr

@[expose] public section

set_option maxRecDepth 16384

noncomputable section

namespace Results

open Idealize.ShloMosaic Idealize.ShloMosaic.StableHlo Cert.ReferenceIdeal Cert.ReferenceIdeal.Gen Cert.ReferenceIdeal.Value Steps

/-- A sum over the 640 entries of a 64 by 10 array laid out in one row is the sum over rows and columns. -/
theorem sum_laid (g : Fin 64 → Fin 10 → EReal) :
    (∑ x : Fin 640, g ⟨x.val / 10, by omega⟩ ⟨x.val % 10, by omega⟩) = ∑ a, ∑ b, g a b := by
  rw [← Fintype.sum_prod_type' g]
  exact Fintype.sum_equiv (finProdFinEquiv (m := 64) (n := 10)).symm _ _ fun x => rfl

/-- The reference's distribution, from the scores, the sums over the supports, and the supports' sizes. -/
abbrev refProbs (s : FVec Ideal S64x10 .f32) (t : FVec Ideal S64x1 .f32) (n : IVec S64 32) : FVec Ideal S64x10 .f32 :=
  maximumf (subf s (broadcastInDim S64x10 ![0, 1] bcast_S64x1_S64x10_0_1 (broadcastInDim S64x1 ![0] bcast_S64_S64x1_0 (Host.divf (subf (shapeCast S64 t shapeCasts_S64x1_S64) (broadcastInDim S64 ![] bcast_S_S64 (constant S_ .f32 0x3F800000#32))) (sitofp .f32 n))))) (broadcastInDim S64x10 ![] bcast_S_S64x10 (constant S_ .f32 0x00000000#32))

/-- The reference's distribution, read. -/
theorem refProbs_apply (s : FVec Ideal S64x10 .f32) (t : FVec Ideal S64x1 .f32) (n : IVec S64 32) (r : Fin 64) (q : Fin 10) :
    refProbs s t n (ix2 r q) = max (s (ix2 r q) - Ideal.div (t (ix2 r 0) - 1) (((n (ix1 r)).toInt : ℝ) : EReal)) 0 := by
  unfold refProbs
  pointwise
  rfl

/-- The reference's loss of a distribution laid out in one row. -/
abbrev refLoss (p : FVec Ideal S640 .f32) : FVec Ideal S_ .f32 :=
  Host.divf (Host.negf (Host.reduceAdd (select (cmpf .ogt p (broadcastInDim S640 ![] bcast_S_S640 (constant S_ .f32 0x00000000#32))) (mulf p (Host.log (select (cmpf .ogt p (broadcastInDim S640 ![] bcast_S_S640 (constant S_ .f32 0x00000000#32))) p (broadcastInDim S640 ![] bcast_S_S640 (id (constant S_ .f32 0x3F800000#32)))))) (broadcastInDim S640 ![] bcast_S_S640 (id (constant S_ .f32 0x00000000#32)))) (constant S_ .f32 0x00000000#32) reducesTo_S640_S_d0 h_S_)) (constant S_ .f32 0x42800000#32)

/-- The reference's loss is the kernel's. -/
theorem refLoss_eq (p : FVec Ideal S64x10 .f32) :
    refLoss (shapeCast S640 p shapeCasts_S64x10_S640) = shapeCast S_ (Distr.meanOf (F := Ideal) (Distr.entropies (F := Ideal) p)) Cert.KernelIdeal.Gen.shapeCasts_S1x1_S_ := by
  funext j
  unfold refLoss Distr.meanOf Distr.entropies
  pointwise
  rw [zero_sub, ← sum_laid fun a b => if 0 < p (ix2 a b) then p (ix2 a b) * Ideal.log (if 0 < p (ix2 a b) then p (ix2 a b) else 1) else 0]
  have h1 : id (constant (F := Ideal) S_ .f32 0x3F800000#32) ix0 = (1 : EReal) := Ideal.ofBits_one_f32
  have h0 : id (constant (F := Ideal) S_ .f32 0x00000000#32) ix0 = (0 : EReal) := Ideal.ofBits_zero_f32
  rw [h1, h0]

/-- The sums over the supports, fetched at the places `c` where these lie in range (not a number elsewhere). -/
abbrev fetched (t : FVec Ideal S64x10 .f32) (c : IVec S64x1x1 32) : FVec Ideal S64x1 .f32 :=
  select (Host.reduce IntOp.andi (andi (cmpi .sge c (broadcastInDim S64x1x1 ![] bcast_S_S64x1x1 (constantI S_ 32 0#32))) (cmpi .sle c (broadcastInDim S64x1x1 ![0, 1, 2] bcast_S1x1x1_S64x1x1_0_1_2 (broadcastInDim S1x1x1 ![2] bcast_S1_S1x1x1_2 (constantI S1 32 9#32))))) (constantI S_ 1 1#1) reducesTo_S64x1x1_S64x1_d2 h_S_) (Host.gather gather_S64x10_S64x1x1_S64x1_n_1_0_0_1_2_11 t c) (broadcastInDim S64x1 ![] bcast_S_S64x1 (constant S_ .f32 0x7FC00000#32))

/-- Where every place lies in range, what is fetched for a row is that row's entry at its place. -/
theorem fetched_apply (t : FVec Ideal S64x10 .f32) (c : IVec S64x1x1 32) (b : Fin 64 → Fin 10)
    (hc : ∀ r, c (ix3 r 0 0) = BitVec.ofNat 32 (b r).val) (r : Fin 64) :
    fetched t c (ix2 r 0) = t (ix2 r (b r)) := by
  have hm : Host.reduce IntOp.andi (andi (cmpi .sge c (broadcastInDim S64x1x1 ![] bcast_S_S64x1x1 (constantI S_ 32 0#32))) (cmpi .sle c (broadcastInDim S64x1x1 ![0, 1, 2] bcast_S1x1x1_S64x1x1_0_1_2 (broadcastInDim S1x1x1 ![2] bcast_S1_S1x1x1_2 (constantI S1 32 9#32))))) (constantI S_ 1 1#1) reducesTo_S64x1x1_S64x1_d2 h_S_ (ix2 r 0) = 1#1 := by
    refine RefDistr.reduce_and _ (fun j => ?_) _ (fun _ => rfl) _ _ _
    have hj : j = ix3 (j 0) 0 0 := by
      funext a
      match a with
      | 0 => rfl
      | 1 => exact Subsingleton.elim (α := Fin 1) _ _
      | 2 => exact Subsingleton.elim (α := Fin 1) _ _
    rw [hj]
    show IntOp.andi (IntOp.cmpi .sge (c (ix3 (j 0) 0 0)) 0#32) (IntOp.cmpi .sle (c (ix3 (j 0) 0 0)) 9#32) = 1#1
    rw [hc (j 0)]
    exact (by decide : ∀ b : Fin 10, IntOp.andi (IntOp.cmpi .sge (BitVec.ofNat 32 b.val) 0#32) (IntOp.cmpi .sle (BitVec.ofNat 32 b.val) 9#32) = 1#1) (b (j 0))
  show Scalar.select (Host.reduce IntOp.andi _ _ reducesTo_S64x1x1_S64x1_d2 h_S_ (ix2 r 0)) (Host.gather gather_S64x10_S64x1x1_S64x1_n_1_0_0_1_2_11 t c (ix2 r 0)) _ = _
  rw [hm, RefDistr.gather_each t c r (b r) (hc r)]
  rfl

variable (V : Valuation τ sig (Elt Ideal))

/-- The reference's distribution is the kernel's of the same scores, where every score is real. -/
theorem v67_eq (hw : ∀ r q, ∃ c : ℝ, row (RefDistr.scores V) r q = c) :
    refProbs (RefDistr.scores V) (fetched (RefDistr.v42 V) (RefDistr.place V)) (RefDistr.v53 V) = Distr.probs (F := Ideal) (RefDistr.scores V) := by
  funext j
  obtain ⟨r, q, rfl⟩ : ∃ (r : Fin 64) (q : Fin 10), j = ix2 r q := ⟨j 0, j 1, by
    funext a
    match a with
    | 0 => rfl
    | 1 => rfl⟩
  have h1 := fun r => Sparse.one_le_support (row (RefDistr.scores V) r) (hw r)
  have h2 := fun r => Sparse.support_le (row (RefDistr.scores V) r)
  have hb : ∀ r, Sparse.support (row (RefDistr.scores V) r) - 1 < 10 := fun r => by
    have := h1 r; have := h2 r; omega
  rw [Distr.probs_apply _ r (hw r) q, refProbs_apply,
    fetched_apply _ _ (fun r => ⟨Sparse.support (row (RefDistr.scores V) r) - 1, hb r⟩) (fun r => RefDistr.place_apply V r (hw r)),
    RefDistr.v42_apply V r (hw r), RefDistr.v53_apply V r (hw r)]
  have hs : Sparse.support (row (RefDistr.scores V) r) - 1 + 1 = Sparse.support (row (RefDistr.scores V) r) := by
    have := h1 r; omega
  have hn : (BitVec.ofNat 32 (Sparse.support (row (RefDistr.scores V) r))).toInt = (Sparse.support (row (RefDistr.scores V) r) : ℤ) := by
    have := h2 r
    exact toInt_col _ (by omega)
  rw [hn]
  show max (_ - Ideal.div (Sparse.total _ (Sparse.support (row (RefDistr.scores V) r) - 1 + 1) - 1) _) 0 = max (_ - Ideal.div _ _) 0
  rw [hs, Int.cast_natCast]
  rfl

/-- A number whose absolute value lies below infinity is real. -/
theorem real_of_cost (x : Fin 32768 → EReal) (q : Fin 32768) (h : Spec.cost x q < ⊤) : ∃ c : ℝ, x q = c := by
  have h' : max (x q) (-(x q)) < ⊤ := h
  rw [max_lt_iff] at h'
  refine ⟨(x q).toReal, (EReal.coe_toReal h'.1.ne ?_).symm⟩
  intro hb
  rw [hb] at h'
  exact absurd h'.2 (by simp)

/-- A sample's entry is zero or one. -/
theorem sample_real (x : Fin 32768 → EReal) (j : ℕ) (q : Fin 32768) : ∃ c : ℝ, Spec.sample x j q = c := by
  unfold Spec.sample Spec.pos
  split_ifs
  · exact ⟨0, by rw [← EReal.coe_one, ← EReal.coe_sub, sub_self]⟩
  · exact ⟨1, by rw [sub_zero, EReal.coe_one]⟩
  · exact ⟨1, EReal.coe_one.symm⟩
  · exact ⟨0, EReal.coe_zero.symm⟩

/-- A score is the sum of a sample times the logits. -/
theorem scoresOf_apply (y : FVec Ideal Cert.KernelIdeal.S64x10x32768 .f32) (x : FVec Ideal Cert.KernelIdeal.S64x32768 .f32) (r : Fin 64) (k : Fin 10) :
    KernelRun.scoresOf y x (ix2 r k) = ∑ q : Fin 32768, y (ix3 r k q) * x (ix2 r q) := by
  unfold KernelRun.scoresOf
  pointwise

/-- Scores of real logits are real. -/
theorem scores_real (x : FVec Ideal Cert.KernelIdeal.S64x32768 .f32) (hx : ∀ r q, Spec.cost (KernelValue.rowOf x r) q < ⊤) (r : Fin 64) (k : Fin 10) :
    ∃ c : ℝ, row (KernelRun.scores x) r k = c := by
  have h : row (KernelRun.scores x) r k = ∑ q : Fin 32768, KernelValue.samples x (ix3 r k q) * x (ix2 r q) := scoresOf_apply _ x r k
  rw [h]
  refine Finset.sum_induction _ (fun v : EReal => ∃ c : ℝ, v = c) ?_ ⟨0, EReal.coe_zero.symm⟩ fun q _ => ?_
  · rintro _ _ ⟨a, rfl⟩ ⟨b, rfl⟩
    exact ⟨a + b, (EReal.coe_add a b).symm⟩
  · obtain ⟨a, ha⟩ := sample_real (KernelValue.rowOf x r) k.val q
    obtain ⟨b, hb⟩ := real_of_cost _ q (hx r q)
    have hs : KernelValue.samples x (ix3 r k q) = a := ha
    have hl : x (ix2 r q) = b := hb
    exact ⟨a * b, by rw [hs, hl, EReal.coe_mul]⟩

end Results
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.KernelRun
public import proofs.«01_k».proof.Proof.Results
public import Idealize.ShloMosaic.Adequacy
public import Idealize.ShloMosaic.Init

@[expose] public section

set_option maxRecDepth 16384

noncomputable section

namespace Cert.Proof

open Idealize.ShloMosaic Idealize.SL.Sem

/-- The kernel at machine floats runs, keeps its argument and ends with every counter at zero. -/
theorem frame_p : Cert.quiescent_Kernel := fun m ρ _ => Cert.Kernel.Gen.frame m ρ

/-- The kernel at exact arithmetic runs, keeps its argument and ends with every counter at zero. -/
theorem frame_pi : Cert.quiescent_KernelIdeal := fun m ρ _ => Cert.KernelIdeal.Gen.frame m ρ

/-- The reference at exact arithmetic runs and keeps its argument; it declares no semaphore. -/
theorem frame_ri : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- Logits that pass the test of the precondition have costs below infinity. -/
theorem cost_lt_of_finite (x : FVec Ideal Cert.KernelIdeal.S64x32768 .f32) (h : Cert.Pre_finite.fn (F := Ideal) x = fun _ => 1#1)
    (r : Fin 64) (q : Fin 32768) : Spec.cost (KernelValue.rowOf x r) q < ⊤ := by
  have e : Ideal.cmp .olt (max (x (ix2 r q)) (-(x (ix2 r q)))) (Ideal.ofBits .f32 0x7F800000#32) = 1#1 := congrFun h (ix2 r q)
  rw [Steps.ofBits_pinf] at e
  by_contra hn
  have hn' : ¬ max (x (ix2 r q)) (-(x (ix2 r q))) < ⊤ := hn
  change BitVec.ofBool (decide (max (x (ix2 r q)) (-(x (ix2 r q))) < ⊤)) = 1#1 at e
  rw [decide_eq_false hn'] at e
  exact absurd e (by decide)

/-- From finite logits the idealized reference ends with the samples, the distribution of their scores and the loss of
    that distribution, each as the idealized kernel computes it, and keeps its argument. -/
theorem reference_run (m : (ℓ : Loc Cert.ReferenceIdeal.nD Cert.ReferenceIdeal.τ Cert.ReferenceIdeal.sig) → Buf (Elt Ideal) ℓ)
    (ρ : Dev Cert.ReferenceIdeal.nD → PrngReg) (x : Dev Cert.ReferenceIdeal.nD → FVec Ideal Cert.KernelIdeal.S64x32768 .f32)
    (hm : ∀ c : Dev Cert.ReferenceIdeal.nD, m ((c.tc : Thread Cert.ReferenceIdeal.nD Cert.ReferenceIdeal.τ).loc Cert.ReferenceIdeal.main_arg0) = x c)
    (hx : ∀ c r q, Spec.cost (KernelValue.rowOf (x c) r) q < ⊤) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v38) = KernelValue.samples (x c)
      ∧ r.2.mem ((c.tc : Thread Cert.ReferenceIdeal.nD Cert.ReferenceIdeal.τ).loc Cert.ReferenceIdeal.main_v67) = Distr.probs (F := Ideal) (KernelRun.scores (x c))
      ∧ r.2.mem ((c.tc : Thread Cert.ReferenceIdeal.nD Cert.ReferenceIdeal.τ).loc Cert.ReferenceIdeal.main_v79)
          = shapeCast Cert.KernelIdeal.S_ (Distr.meanOf (F := Ideal) (Distr.entropies (F := Ideal) (Distr.probs (F := Ideal) (KernelRun.scores (x c))))) Cert.KernelIdeal.Gen.shapeCasts_S1x1_S_
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)) := by
  refine (θ_run Cert.ReferenceIdeal.defs _ _).mono (fun r h c => ?_) (Cert.ReferenceIdeal.Value.run (F := Ideal) m ρ)
  obtain ⟨h0, h1, h2, h3⟩ := h c
  have hl : RefSample.logits (StableHlo.launchContents m c) = x c := hm c
  have hc : ∀ r q, Spec.cost (RefSample.lrow (StableHlo.launchContents m c) r) q < ⊤ := by
    intro r q
    show Spec.cost (KernelValue.rowOf (RefSample.logits (StableHlo.launchContents m c)) r) q < ⊤
    rw [hl]
    exact hx c r q
  have hs : RefDistr.scores (StableHlo.launchContents m c) = KernelRun.scores (x c) := by
    rw [← hl]
    exact RefSample.v39_eq _ hc
  have hw : ∀ r q, ∃ a : ℝ, Steps.row (RefDistr.scores (StableHlo.launchContents m c)) r q = a := by
    rw [hs]
    exact Results.scores_real (x c) (hx c)
  have hp := Results.v67_eq _ hw
  refine ⟨h0.trans ?_, h1.trans ?_, h2.trans ?_, h3⟩
  · rw [← hl]
    exact RefSample.v38_eq _ hc
  · rw [← hs]
    exact hp
  · rw [← hs, ← hp]
    exact Results.refLoss_eq _

/-- From finite logits, the idealized kernel and the idealized reference end with equal results. -/
theorem algebraic : Cert.algebraic_KernelIdeal_ReferenceIdeal_pre_finite := by
  intro m g m' g' hpre hagree
  have hX : ∀ c r q, Spec.cost (KernelValue.rowOf (KernelRun.logits m c) r) q < ⊤ := fun c => cost_lt_of_finite _ (hpre c)
  refine ⟨fun c => KernelValue.samples (KernelRun.logits m c), fun c => Distr.probs (F := Ideal) (KernelRun.scores (KernelRun.logits m c)),
    fun c => shapeCast Cert.KernelIdeal.S_ (Distr.meanOf (F := Ideal) (Distr.entropies (F := Ideal) (Distr.probs (F := Ideal) (KernelRun.scores (KernelRun.logits m c))))) Cert.KernelIdeal.Gen.shapeCasts_S1x1_S_,
    ?_, reference_run m' g' (fun c => KernelRun.logits m c) hagree hX⟩
  refine (θ_run Cert.KernelIdeal.defs _ _).mono (fun r h c => ?_) (KernelRun.run m g hX)
  obtain ⟨h0, h1, h2, h3⟩ := h c
  refine ⟨h0, h1.trans (Distr.out_probs _), h2.trans ?_, h3⟩
  rw [Distr.out_loss]

/-- All the claims together. -/
theorem claim : Cert.Claim :=
  ⟨Cert.Kernel.Gen.facts, Cert.KernelIdeal.Gen.facts, Cert.ReferenceIdeal.Gen.facts, Cert.Pre_finite.Gen.facts,
    frame_p, frame_pi, fun m ρ _ => Cert.KernelIdeal.Gen.frame m ρ, frame_ri,
    fun m ρ _ => frame_ri m ρ trivial, trivial, algebraic⟩

end Cert.Proof

end
